-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "ninv" .f32 0x3DE38E39#32 ((1 / 9 : ℝ) : EReal)
  ∧ IdealRules.named_const.Statement Cert.KernelIdeal.κ "epsn" .f32 0x323EE32F#32 ((1 / 90000000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x384x384 : Shape := ⟨3, ![3, 384, 384]⟩
abbrev S_ : Shape := ⟨0, ![]⟩

class Facts : Prop where
  bcast_S_S3x384x384 : S_.BroadcastsInDim S3x384x384 (![] : Fin 0 → Fin S3x384x384.rank)
  reducesTo_S3x384x384_S_d0_1_2 : S3x384x384.ReducesTo [0, 1, 2] S_
  h_S_ : 0 < S_.numel

variable [Facts]

def fn {F : FTy → Type} [FloatOps F] (main_arg0 : FVec F S3x384x384 .f32) (main_arg1 : FVec F S3x384x384 .f32) : IVec S_ 1 :=
  let main_v0 : FVec F S3x384x384 .f32 := Host.absf main_arg0
  let main_cst : FVec F S_ .f32 := constant S_ .f32 0x7F800000#32
  let main_v1 : FVec F S3x384x384 .f32 := broadcastInDim S3x384x384 ![] bcast_S_S3x384x384 main_cst
  let main_v2 : IVec S3x384x384 1 := cmpf .olt main_v0 main_v1
  let main_c : IVec S_ 1 := constantI S_ 1 1#1
  let main_v3 : IVec S_ 1 := (fun x v => Host.reduce IntOp.andi x v reducesTo_S3x384x384_S_d0_1_2 h_S_) main_v2 main_c
  let main_v4 : FVec F S3x384x384 .f32 := Host.absf main_arg1
  let main_cst_0 : FVec F S_ .f32 := constant S_ .f32 0x7F800000#32
  let main_v5 : FVec F S3x384x384 .f32 := broadcastInDim S3x384x384 ![] bcast_S_S3x384x384 main_cst_0
  let main_v6 : IVec S3x384x384 1 := cmpf .olt main_v4 main_v5
  let main_c_1 : IVec S_ 1 := constantI S_ 1 1#1
  let main_v7 : IVec S_ 1 := (fun x v => Host.reduce IntOp.andi x v reducesTo_S3x384x384_S_d0_1_2 h_S_) main_v6 main_c_1
  let main_v8 : IVec S_ 1 := andi main_v3 main_v7
  main_v8
-- ==== Kernel.lean ====
abbrev S3x384x384 : Shape := ⟨3, ![3, 384, 384]⟩
abbrev S1x1 : Shape := ⟨2, ![1, 1]⟩
abbrev S1x384x384 : Shape := ⟨3, ![1, 384, 384]⟩
abbrev S384x384 : Shape := ⟨2, ![384, 384]⟩
abbrev S382x384 : Shape := ⟨2, ![382, 384]⟩
abbrev S382x382 : Shape := ⟨2, ![382, 382]⟩
abbrev S1x382x382 : Shape := ⟨3, ![1, 382, 382]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S3x384x384, .f32⟩
  | .hbm, ⟨1, _⟩ => ⟨S3x384x384, .f32⟩
  | .hbm, ⟨2, _⟩ => ⟨S1x1, .f32⟩
  | .local _ .vmem, ⟨0, _⟩ => ⟨S3x384x384, .f32⟩
  | .local _ .vmem, ⟨1, _⟩ => ⟨S3x384x384, .f32⟩
  | .local _ .vmem, ⟨2, _⟩ => ⟨S1x1, .f32⟩
  | _, _ => ⟨S3x384x384, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3x384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "epsn" => some ((1 / 90000000 : ℝ) : EReal)
  | "ninv" => some ((1 / 9 : ℝ) : EReal)
  | _ => none
-- ==== ReferenceIdeal.lean ====
abbrev S3x384x384 : Shape := ⟨3, ![3, 384, 384]⟩
abbrev S382x382x3x3 : Shape := ⟨4, ![382, 382, 3, 3]⟩
abbrev S_ : Shape := ⟨0, ![]⟩
abbrev S145924x9 : Shape := ⟨2, ![145924, 9]⟩
abbrev S3x147456 : Shape := ⟨2, ![3, 147456]⟩
abbrev S147456x3 : Shape := ⟨2, ![147456, 3]⟩
abbrev S145924x9x1 : Shape := ⟨3, ![145924, 9, 1]⟩
abbrev S145924x9x3 : Shape := ⟨3, ![145924, 9, 3]⟩
abbrev S145924x3 : Shape := ⟨2, ![145924, 3]⟩
abbrev S145924x1x3 : Shape := ⟨3, ![145924, 1, 3]⟩
abbrev S145924x3x3 : Shape := ⟨3, ![145924, 3, 3]⟩
abbrev S3x3 : Shape := ⟨2, ![3, 3]⟩
abbrev S1x3x3 : Shape := ⟨3, ![1, 3, 3]⟩
abbrev S145924x3x6 : Shape := ⟨3, ![145924, 3, 6]⟩
abbrev S145924x1x6 : Shape := ⟨3, ![145924, 1, 6]⟩
abbrev S145924x1x1 : Shape := ⟨3, ![145924, 1, 1]⟩
abbrev S145924x3x1 : Shape := ⟨3, ![145924, 3, 1]⟩
abbrev S9x9 : Shape := ⟨2, ![9, 9]⟩
abbrev S145924x9x9 : Shape := ⟨3, ![145924, 9, 9]⟩
abbrev S1x9x9 : Shape := ⟨3, ![1, 9, 9]⟩
abbrev S1313316 : Shape := ⟨1, ![1313316]⟩
abbrev S1313316x9 : Shape := ⟨2, ![1313316, 9]⟩
abbrev S11819844 : Shape := ⟨1, ![11819844]⟩
abbrev S1x145924x1x9 : Shape := ⟨4, ![1, 145924, 1, 9]⟩
abbrev S1x145924x9x9 : Shape := ⟨4, ![1, 145924, 9, 9]⟩
abbrev S145924x81 : Shape := ⟨2, ![145924, 81]⟩
abbrev S11819844x1 : Shape := ⟨2, ![11819844, 1]⟩
abbrev S11819844x3 : Shape := ⟨2, ![11819844, 3]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S3x384x384, .f32⟩
  | 1 => ⟨S3x384x384, .f32⟩
  | 2 => ⟨S382x382x3x3, .i32⟩
  | 3 => ⟨S382x382x3x3, .i32⟩
  | 4 => ⟨S382x382x3x3, .i32⟩
  | 5 => ⟨S382x382x3x3, .i32⟩
  | 6 => ⟨S382x382x3x3, .i32⟩
  | 7 => ⟨S_, .i32⟩
  | 8 => ⟨S382x382x3x3, .i32⟩
  | 9 => ⟨S382x382x3x3, .i32⟩
  | 10 => ⟨S382x382x3x3, .i32⟩
  | 11 => ⟨S382x382x3x3, .i32⟩
  | 12 => ⟨S145924x9, .i32⟩
  | 13 => ⟨S3x147456, .f32⟩
  | 14 => ⟨S147456x3, .f32⟩
  | 15 => ⟨S_, .i32⟩
  | 16 => ⟨S145924x9, .i32⟩
  | 17 => ⟨S145924x9, .i1⟩
  | 18 => ⟨S_, .i32⟩
  | 19 => ⟨S145924x9, .i32⟩
  | 20 => ⟨S145924x9, .i32⟩
  | 21 => ⟨S145924x9, .i32⟩
  | 22 => ⟨S145924x9x1, .i32⟩
  | 23 => ⟨S145924x9x3, .f32⟩
  | 24 => ⟨S_, .f32⟩
  | 25 => ⟨S145924x3, .f32⟩
  | 26 => ⟨S145924x1x3, .f32⟩
  | 27 => ⟨S_, .f32⟩
  | 28 => ⟨S145924x1x3, .f32⟩
  | 29 => ⟨S145924x1x3, .f32⟩
  | 30 => ⟨S145924x3x3, .f32⟩
  | 31 => ⟨S_, .f32⟩
  | 32 => ⟨S145924x3x3, .f32⟩
  | 33 => ⟨S145924x3x3, .f32⟩
  | 34 => ⟨S145924x3x3, .f32⟩
  | 35 => ⟨S145924x3x3, .f32⟩
  | 36 => ⟨S3x3, .i32⟩
  | 37 => ⟨S3x3, .i32⟩
  | 38 => ⟨S_, .i32⟩
  | 39 => ⟨S3x3, .i32⟩
  | 40 => ⟨S3x3, .i32⟩
  | 41 => ⟨S3x3, .i1⟩
  | 42 => ⟨S3x3, .f32⟩
  | 43 => ⟨S_, .f32⟩
  | 44 => ⟨S3x3, .f32⟩
  | 45 => ⟨S3x3, .f32⟩
  | 46 => ⟨S1x3x3, .f32⟩
  | 47 => ⟨S145924x3x3, .f32⟩
  | 48 => ⟨S145924x3x3, .f32⟩
  | 49 => ⟨S3x3, .i32⟩
  | 50 => ⟨S3x3, .i32⟩
  | 51 => ⟨S_, .i32⟩
  | 52 => ⟨S3x3, .i32⟩
  | 53 => ⟨S3x3, .i32⟩
  | 54 => ⟨S3x3, .i1⟩
  | 55 => ⟨S3x3, .f32⟩
  | 56 => ⟨S145924x3x3, .f32⟩
  | 57 => ⟨S145924x3x6, .f32⟩
  | 58 => ⟨S145924x3x6, .i32⟩
  | 59 => ⟨S145924x1x6, .f32⟩
  | 60 => ⟨S145924x1x1, .f32⟩
  | 61 => ⟨S145924x1x6, .f32⟩
  | 62 => ⟨S145924x1x6, .f32⟩
  | 63 => ⟨S_, .i32⟩
  | 64 => ⟨S145924x3x6, .i32⟩
  | 65 => ⟨S145924x3x6, .i1⟩
  | 66 => ⟨S145924x3x1, .f32⟩
  | 67 => ⟨S145924x3x6, .f32⟩
  | 68 => ⟨S145924x3x6, .f32⟩
  | 69 => ⟨S145924x3x6, .f32⟩
  | 70 => ⟨S145924x3x6, .f32⟩
  | 71 => ⟨S145924x3x6, .f32⟩
  | 72 => ⟨S145924x3x6, .f32⟩
  | 73 => ⟨S145924x1x6, .f32⟩
  | 74 => ⟨S145924x1x1, .f32⟩
  | 75 => ⟨S145924x1x6, .f32⟩
  | 76 => ⟨S145924x1x6, .f32⟩
  | 77 => ⟨S_, .i32⟩
  | 78 => ⟨S145924x3x6, .i32⟩
  | 79 => ⟨S145924x3x6, .i1⟩
  | 80 => ⟨S145924x3x1, .f32⟩
  | 81 => ⟨S145924x3x6, .f32⟩
  | 82 => ⟨S145924x3x6, .f32⟩
  | 83 => ⟨S145924x3x6, .f32⟩
  | 84 => ⟨S145924x3x6, .f32⟩
  | 85 => ⟨S145924x3x6, .f32⟩
  | 86 => ⟨S145924x3x6, .f32⟩
  | 87 => ⟨S145924x1x6, .f32⟩
  | 88 => ⟨S145924x1x1, .f32⟩
  | 89 => ⟨S145924x1x6, .f32⟩
  | 90 => ⟨S145924x1x6, .f32⟩
  | 91 => ⟨S_, .i32⟩
  | 92 => ⟨S145924x3x6, .i32⟩
  | 93 => ⟨S145924x3x6, .i1⟩
  | 94 => ⟨S145924x3x1, .f32⟩
  | 95 => ⟨S145924x3x6, .f32⟩
  | 96 => ⟨S145924x3x6, .f32⟩
  | 97 => ⟨S145924x3x6, .f32⟩
  | 98 => ⟨S145924x3x6, .f32⟩
  | 99 => ⟨S145924x3x6, .f32⟩
  | 100 => ⟨S145924x3x6, .f32⟩
  | 101 => ⟨S145924x3x3, .f32⟩
  | 102 => ⟨S145924x9x3, .f32⟩
  | 103 => ⟨S145924x9x3, .f32⟩
  | 104 => ⟨S145924x9x3, .f32⟩
  | 105 => ⟨S9x9, .i32⟩
  | 106 => ⟨S9x9, .i32⟩
  | 107 => ⟨S_, .i32⟩
  | 108 => ⟨S9x9, .i32⟩
  | 109 => ⟨S9x9, .i32⟩
  | 110 => ⟨S9x9, .i1⟩
  | 111 => ⟨S9x9, .f32⟩
  | 112 => ⟨S145924x9x3, .f32⟩
  | 113 => ⟨S145924x9x3, .f32⟩
  | 114 => ⟨S145924x9x9, .f32⟩
  | 115 => ⟨S_, .f32⟩
  | 116 => ⟨S145924x9x9, .f32⟩
  | 117 => ⟨S145924x9x9, .f32⟩
  | 118 => ⟨S_, .f32⟩
  | 119 => ⟨S145924x9x9, .f32⟩
  | 120 => ⟨S145924x9x9, .f32⟩
  | 121 => ⟨S1x9x9, .f32⟩
  | 122 => ⟨S145924x9x9, .f32⟩
  | 123 => ⟨S145924x9x9, .f32⟩
  | 124 => ⟨S1313316, .i32⟩
  | 125 => ⟨S1313316x9, .i32⟩
  | 126 => ⟨S11819844, .i32⟩
  | 127 => ⟨S1x145924x1x9, .i32⟩
  | _ => ⟨S3x384x384, .f32⟩

abbrev hbmTy0_1 (i : Nat) : BufTy := match i % 128 with
  | 0 => ⟨S1x145924x9x9, .i32⟩
  | 1 => ⟨S145924x81, .i32⟩
  | 2 => ⟨S11819844, .i32⟩
  | 3 => ⟨S11819844, .f32⟩
  | 4 => ⟨S3x147456, .f32⟩
  | 5 => ⟨S147456x3, .f32⟩
  | 6 => ⟨S_, .f32⟩
  | 7 => ⟨S147456x3, .f32⟩
  | 8 => ⟨S11819844x1, .f32⟩
  | 9 => ⟨S_, .i32⟩
  | 10 => ⟨S11819844, .i32⟩
  | 11 => ⟨S11819844, .i1⟩
  | 12 => ⟨S_, .i32⟩
  | 13 => ⟨S11819844, .i32⟩
  | 14 => ⟨S11819844, .i32⟩
  | 15 => ⟨S11819844, .i32⟩
  | 16 => ⟨S11819844x1, .i32⟩
  | 17 => ⟨S11819844x3, .f32⟩
  | 18 => ⟨S11819844x3, .f32⟩
  | 19 => ⟨S11819844x3, .f32⟩
  | 20 => ⟨S_, .i32⟩
  | 21 => ⟨S11819844, .i32⟩
  | 22 => ⟨S11819844, .i1⟩
  | 23 => ⟨S_, .i32⟩
  | 24 => ⟨S11819844, .i32⟩
  | 25 => ⟨S11819844, .i32⟩
  | 26 => ⟨S11819844, .i32⟩
  | 27 => ⟨S11819844x1, .i32⟩
  | 28 => ⟨S147456x3, .f32⟩
  | 29 => ⟨S147456x3, .f32⟩
  | 30 => ⟨S_, .f32⟩
  | 31 => ⟨S_, .f32⟩
  | 32 => ⟨S1x1, .f32⟩
  | _ => ⟨S3x384x384, .f32⟩

abbrev hbmTy (i : Nat) : BufTy := match i / 128 with
  | 0 => hbmTy0_0 i
  | 1 => hbmTy0_1 i
  | _ => ⟨S3x384x384, .f32⟩

abbrev bufTy : (tb : Table) → Fin (tcTables nBuf tb) → BufTy
  | .hbm, ⟨i, _⟩ => hbmTy i
  | _, _ => ⟨S3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_6 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_call0_v0 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_c_8 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_call1_v0 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_c_9 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_call2_v0 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_c_10 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_11 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_v115 : Ref sig .tc := ⟨.hbm, 136, rfl⟩
abbrev main_c_14 : Ref sig .tc := ⟨.hbm, 137, rfl⟩
abbrev main_v116 : Ref sig .tc := ⟨.hbm, 138, rfl⟩
abbrev main_v117 : Ref sig .tc := ⟨.hbm, 139, rfl⟩
abbrev main_c_15 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_c_16 : Ref sig .tc := ⟨.hbm, 148, rfl⟩
abbrev main_v125 : Ref sig .tc := ⟨.hbm, 149, rfl⟩
abbrev main_v126 : Ref sig .tc := ⟨.hbm, 150, rfl⟩
abbrev main_c_17 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_cst_18 : Ref sig .tc := ⟨.hbm, 158, rfl⟩
abbrev main_v133 : Ref sig .tc := ⟨.hbm, 159, rfl⟩
abbrev main_v134 : Ref sig .tc := ⟨.hbm, 160, rfl⟩

abbrev nD : Nat := 1
abbrev τ : Topo := Topo.v7x

variable {F : FTy → Type} [FloatOps F]
-- ==== Proof.Window.lean ====
/- The mathematics of one 3×3 window over the real numbers: the regularised covariance of the nine pixels, its inverse by
   Gauss–Jordan elimination, the matting weights, and the window's share of the trace in closed form. -/
module

public import Idealize.ShloMosaic.PureOps.Ideal.Laws

@[expose] public section

noncomputable section

namespace Cert.Matting

/-- The sum of one channel over the nine pixels of a window. -/
def tot (t : Fin 9 → Fin 3 → ℝ) (a : Fin 3) : ℝ := ∑ i, t i a

/-- The sum over a window of the product of a channel of one picture and a channel of another. -/
def dots (t u : Fin 9 → Fin 3 → ℝ) (a b : Fin 3) : ℝ := ∑ i, t i a * u i b

/-- The mean of a channel over the window. -/
def avg (t : Fin 9 → Fin 3 → ℝ) (a : Fin 3) : ℝ := tot t a / 9

/-- The window's covariance matrix with a ninth of `10⁻⁷` added to the diagonal. -/
def cov (t : Fin 9 → Fin 3 → ℝ) (a b : Fin 3) : ℝ :=
  dots t t a b / 9 - avg t a * avg t b + (if a = b then 1 else 0) / 90000000

/-- One step of Gauss–Jordan elimination on a three-row table: row `k` is divided by its pivot, and its multiple is taken
    from each other row so that column `k` vanishes there. -/
def elim (k : Fin 3) (m : Fin 3 → Fin 6 → ℝ) (r : Fin 3) (c : Fin 6) : ℝ :=
  if r = k then m k c / m k (Fin.castLE (by decide) k)
  else m r c - m r (Fin.castLE (by decide) k) * (m k c / m k (Fin.castLE (by decide) k))

/-- A matrix with the identity written to its right. -/
def augment (m : Fin 3 → Fin 3 → ℝ) (r : Fin 3) (c : Fin 6) : ℝ :=
  if h : c.val < 3 then m r ⟨c.val, h⟩ else if r.val = c.val - 3 then 1 else 0

/-- The right half of the table after the three steps. -/
def gaussInv (m : Fin 3 → Fin 3 → ℝ) (r c : Fin 3) : ℝ :=
  elim 2 (elim 1 (elim 0 (augment m))) r (Fin.natAdd 3 c)

/-- The two-by-two leading minor of a symmetric matrix. -/
def minor2 (m : Fin 3 → Fin 3 → ℝ) : ℝ := m 0 0 * m 1 1 - m 0 1 * m 0 1

/-- The cofactors of a symmetric three-by-three matrix, read from its upper triangle. -/
def cof (m : Fin 3 → Fin 3 → ℝ) : Fin 3 → Fin 3 → ℝ :=
  ![![m 1 1 * m 2 2 - m 1 2 * m 1 2, m 0 2 * m 1 2 - m 0 1 * m 2 2, m 0 1 * m 1 2 - m 0 2 * m 1 1],
    ![m 0 2 * m 1 2 - m 0 1 * m 2 2, m 0 0 * m 2 2 - m 0 2 * m 0 2, m 0 1 * m 0 2 - m 0 0 * m 1 2],
    ![m 0 1 * m 1 2 - m 0 2 * m 1 1, m 0 1 * m 0 2 - m 0 0 * m 1 2, m 0 0 * m 1 1 - m 0 1 * m 0 1]]

/-- The determinant of a symmetric three-by-three matrix, along its first row. -/
def det3 (m : Fin 3 → Fin 3 → ℝ) : ℝ := m 0 0 * cof m 0 0 + m 0 1 * cof m 0 1 + m 0 2 * cof m 0 2

/-- Elimination without exchanging rows inverts a symmetric matrix whose leading minors do not vanish. -/
theorem gaussInv_eq (m : Fin 3 → Fin 3 → ℝ) (hs : ∀ a b, m a b = m b a) (h0 : m 0 0 ≠ 0) (h1 : minor2 m ≠ 0)
    (h2 : det3 m ≠ 0) (a b : Fin 3) : gaussInv m a b = cof m a b / det3 m := by
  have e10 := hs 1 0
  have e20 := hs 2 0
  have e21 := hs 2 1
  have p1 : m 1 1 - m 0 1 * (m 0 1 / m 0 0) = minor2 m / m 0 0 := by
    unfold minor2; field_simp
  have p2 : m 2 2 - m 0 2 * (m 0 2 / m 0 0)
      - (m 1 2 - m 0 2 * (m 0 1 / m 0 0)) * ((m 1 2 - m 0 1 * (m 0 2 / m 0 0)) / (minor2 m / m 0 0))
      = det3 m / minor2 m := by
    unfold det3 cof
    field_simp
    simp [minor2]
    ring
  fin_cases a <;> fin_cases b <;>
    simp [gaussInv, elim, augment, Fin.castLE, Fin.natAdd, e10, e20, e21, p1, p2]
  all_goals
    field_simp
    try simp [cof, det3, minor2]
    try ring

/-- The covariance matrix is symmetric. -/
theorem cov_symm (t : Fin 9 → Fin 3 → ℝ) (a b : Fin 3) : cov t a b = cov t b a := by
  unfold cov dots
  simp only [mul_comm, eq_comm]

/-- The quadratic form of the covariance matrix is positive away from the origin: a variance and a positive multiple of
    the squared length. -/
theorem cov_quad_pos (t : Fin 9 → Fin 3 → ℝ) (x y z : ℝ) (h : x ≠ 0 ∨ y ≠ 0 ∨ z ≠ 0) :
    0 < x * x * cov t 0 0 + y * y * cov t 1 1 + z * z * cov t 2 2
      + 2 * (x * y * cov t 0 1 + x * z * cov t 0 2 + y * z * cov t 1 2) := by
  have hsq : ∑ i, (x * t i 0 + y * t i 1 + z * t i 2) * (x * t i 0 + y * t i 1 + z * t i 2)
      = x * x * dots t t 0 0 + y * y * dots t t 1 1 + z * z * dots t t 2 2
      + 2 * (x * y * dots t t 0 1 + x * z * dots t t 0 2 + y * z * dots t t 1 2) := by
    simp only [dots, Finset.mul_sum, ← Finset.sum_add_distrib]
    exact Finset.sum_congr rfl fun i _ => by ring
  have hlin : ∑ i, (x * t i 0 + y * t i 1 + z * t i 2) = x * tot t 0 + y * tot t 1 + z * tot t 2 := by
    simp only [tot, Finset.mul_sum, ← Finset.sum_add_distrib]
  have hvar : ∀ w : Fin 9 → ℝ, (∑ i, w i) * (∑ i, w i) / 81 ≤ (∑ i, w i * w i) / 9 := fun w => by
    have h0 : 0 ≤ ∑ i, (w i - (∑ j, w j) / 9) * (w i - (∑ j, w j) / 9) :=
      Finset.sum_nonneg fun i _ => mul_self_nonneg _
    have h1 : ∑ i, (w i - (∑ j, w j) / 9) * (w i - (∑ j, w j) / 9)
        = ∑ i, w i * w i - (∑ i, w i) * (∑ i, w i) / 9 := by
      generalize hS : (∑ j, w j) = S
      have : ∀ i, (w i - S / 9) * (w i - S / 9) = w i * w i - 2 * (S / 9) * w i + S / 9 * (S / 9) := fun i => by ring
      simp only [this, Finset.sum_add_distrib, Finset.sum_sub_distrib, ← Finset.mul_sum, hS, Finset.sum_const,
        Finset.card_univ, Fintype.card_fin, nsmul_eq_mul]
      push_cast
      ring
    rw [h1] at h0
    linarith
  have hv := hvar fun i => x * t i 0 + y * t i 1 + z * t i 2
  rw [hsq, hlin] at hv
  have hp : 0 < x * x + y * y + z * z := by
    rcases h with h | h | h <;> nlinarith [mul_self_nonneg x, mul_self_nonneg y, mul_self_nonneg z, mul_self_pos.2 h]
  simp [cov, avg]
  nlinarith

/-- The first pivot is positive. -/
theorem cov_pos (t : Fin 9 → Fin 3 → ℝ) : 0 < cov t 0 0 := by
  simpa using cov_quad_pos t 1 0 0 (Or.inl one_ne_zero)

/-- The two-by-two leading minor of the covariance matrix is positive. -/
theorem minor2_pos (t : Fin 9 → Fin 3 → ℝ) : 0 < minor2 (cov t) := by
  have h0 := cov_pos t
  have h := cov_quad_pos t (-cov t 0 1) (cov t 0 0) 0 (Or.inr (Or.inl h0.ne'))
  have : 0 < cov t 0 0 * minor2 (cov t) := by unfold minor2; linarith
  exact (mul_pos_iff_of_pos_left h0).1 this

/-- The determinant of the covariance matrix is positive. -/
theorem det3_pos (t : Fin 9 → Fin 3 → ℝ) : 0 < det3 (cov t) := by
  have h0 := minor2_pos t
  have h := cov_quad_pos t (cof (cov t) 0 2) (cof (cov t) 1 2) (cof (cov t) 2 2)
    (Or.inr (Or.inr (by simpa [cof, minor2] using h0.ne')))
  have : 0 < minor2 (cov t) * det3 (cov t) := by
    refine lt_of_lt_of_eq h ?_
    simp [det3, cof, minor2]
    ring
  exact (mul_pos_iff_of_pos_left h0).1 this

/-- The inverse the elimination computes for a window. -/
theorem gaussInv_cov (t : Fin 9 → Fin 3 → ℝ) (a b : Fin 3) :
    gaussInv (cov t) a b = cof (cov t) a b / det3 (cov t) :=
  gaussInv_eq _ (cov_symm t) (cov_pos t).ne' (minor2_pos t).ne' (det3_pos t).ne' a b

end Cert.Matting

end
-- ==== Proof.Share.lean ====
/- One window's share of the trace over the real numbers: the double sum of the matting weights against the second picture
   equals the closed form in the window's sums. -/
module

public import proofs.«01_k».proof.Proof.Window

@[expose] public section

noncomputable section

namespace Cert.Matting

/-- A pixel's deviation from the window's mean, times the inverse covariance. -/
def scaled (t : Fin 9 → Fin 3 → ℝ) (i : Fin 9) (b : Fin 3) : ℝ :=
  ∑ a, (t i a - avg t a) * gaussInv (cov t) a b

/-- The matting weight of a pair of pixels of a window. -/
def weight (t : Fin 9 → Fin 3 → ℝ) (i k : Fin 9) : ℝ :=
  (if i = k then 1 else 0) - (1 + ∑ b, scaled t i b * (t k b - avg t b)) / 9

/-- One window's share of the trace, summed over pairs of pixels and over the channels of the second picture. -/
def share (t u : Fin 9 → Fin 3 → ℝ) : ℝ := ∑ i, ∑ k, ∑ d, u i d * (weight t i k * u k d)

/-- The window's covariance of a channel of the first picture with a channel of the second, times nine. -/
def cross (t u : Fin 9 → Fin 3 → ℝ) (a d : Fin 3) : ℝ := dots t u a d - avg t a * tot u d

/-- The inner product of two rows of the cross covariance. -/
def gram (t u : Fin 9 → Fin 3 → ℝ) (a b : Fin 3) : ℝ :=
  cross t u a 0 * cross t u b 0 + cross t u a 1 * cross t u b 1 + cross t u a 2 * cross t u b 2

/-- The cofactors summed against the inner products of the cross covariance's rows. -/
def quad (t u : Fin 9 → Fin 3 → ℝ) : ℝ :=
  cof (cov t) 0 0 * gram t u 0 0 + cof (cov t) 1 1 * gram t u 1 1 + cof (cov t) 2 2 * gram t u 2 2
    + 2 * (cof (cov t) 0 1 * gram t u 0 1 + cof (cov t) 0 2 * gram t u 0 2 + cof (cov t) 1 2 * gram t u 1 2)

/-- The sum of the squares of the second picture over the window. -/
def energy (u : Fin 9 → Fin 3 → ℝ) : ℝ := ∑ i, (u i 0 * u i 0 + u i 1 * u i 1 + u i 2 * u i 2)

/-- The window's share of the trace in closed form. -/
def closed (t u : Fin 9 → Fin 3 → ℝ) : ℝ :=
  energy u - 1 / 9 * ((tot u 0 * tot u 0 + tot u 1 * tot u 1 + tot u 2 * tot u 2) + quad t u / det3 (cov t))

/-- The deviations from the mean, summed against the second picture, are the cross covariance. -/
theorem dev_sum (t u : Fin 9 → Fin 3 → ℝ) (a d : Fin 3) : ∑ i, (t i a - avg t a) * u i d = cross t u a d := by
  simp only [cross, dots, tot, sub_mul, Finset.sum_sub_distrib, Finset.mul_sum]

/-- The deviations' part of the double sum in one channel. -/
theorem dev_part (t u : Fin 9 → Fin 3 → ℝ) (d : Fin 3) :
    ∑ i, ∑ k, u i d * ((∑ b, scaled t i b * (t k b - avg t b)) * u k d)
      = ∑ a, ∑ b, gaussInv (cov t) a b * (cross t u a d * cross t u b d) := by
  simp only [← dev_sum, Finset.sum_mul_sum, scaled, Fin.sum_univ_three]
  simp only [Finset.mul_sum, ← Finset.sum_add_distrib]
  exact Finset.sum_congr rfl fun i _ => Finset.sum_congr rfl fun k _ => by ring

/-- The ones' part of the double sum in one channel. -/
theorem one_part (u : Fin 9 → Fin 3 → ℝ) (d : Fin 3) : ∑ i, ∑ k, u i d * u k d = tot u d * tot u d := by
  simp only [tot, Finset.sum_mul_sum]

/-- The double sum of the weights is the closed form. -/
theorem share_eq_closed (t u : Fin 9 → Fin 3 → ℝ) : share t u = closed t u := by
  have hchan : ∀ d : Fin 3, ∑ i, ∑ k, u i d * (weight t i k * u k d)
      = ∑ i, u i d * u i d - 1 / 9 * (tot u d * tot u d)
        - 1 / 9 * ∑ a, ∑ b, gaussInv (cov t) a b * (cross t u a d * cross t u b d) := fun d => by
    rw [← dev_part, ← one_part]
    have hd : ∑ i, u i d * u i d = ∑ i, ∑ k, u i d * ((if i = k then 1 else 0) * u k d) := by
      refine Finset.sum_congr rfl fun i _ => ?_
      simp
    rw [hd]
    simp only [Finset.mul_sum (s := (Finset.univ : Finset (Fin 9))), ← Finset.sum_sub_distrib]
    exact Finset.sum_congr rfl fun i _ => Finset.sum_congr rfl fun k _ => by unfold weight; ring
  have hswap : share t u = ∑ d, ∑ i, ∑ k, u i d * (weight t i k * u k d) := by
    unfold share
    rw [Finset.sum_comm]
    simp only [Fin.sum_univ_three, Finset.sum_add_distrib]
    rw [Finset.sum_comm, Finset.sum_comm (f := fun k i => u i 1 * (weight t i k * u k 1)),
      Finset.sum_comm (f := fun k i => u i 2 * (weight t i k * u k 2))]
  have he : energy u = ∑ i, u i 0 * u i 0 + ∑ i, u i 1 * u i 1 + ∑ i, u i 2 * u i 2 := by
    simp only [energy, Finset.sum_add_distrib]
  rw [hswap, Fin.sum_univ_three, hchan, hchan, hchan, closed, he]
  simp only [Fin.sum_univ_three, gaussInv_cov, quad, gram]
  have c10 : cof (cov t) 1 0 = cof (cov t) 0 1 := rfl
  have c20 : cof (cov t) 2 0 = cof (cov t) 0 2 := rfl
  have c21 : cof (cov t) 2 1 = cof (cov t) 1 2 := rfl
  rw [c10, c20, c21]
  ring

end Cert.Matting

end
-- ==== Proof.Pixels.lean ====
/- A picture as a table of real numbers, the nine pixels of a window of it, and the reading of the precondition: an argument
   whose elements are all below infinity in magnitude is a table of real numbers. -/
module

public import proofs.«01_k».proof.Proof.Share
public import proofs.«01_k».proof.Defs
public import Idealize.ShloMosaic.Lib.ValueIdx

@[expose] public section

noncomputable section

namespace Cert.Matting

open Idealize.ShloMosaic Idealize.ShloMosaic.ValueIdx

/-- The shape of a picture: three channels of 384 rows of 384 pixels. -/
abbrev Frame : Shape := ⟨3, ![3, 384, 384]⟩

/-- A picture of real numbers. -/
abbrev Pic := Frame.Idx → ℝ

/-- A picture as the array of extended reals a program holds. -/
abbrev lift (T : Pic) : Frame.Idx → EReal := fun i => ((T i : ℝ) : EReal)

/-- The pixel of channel `c`, row `r`, column `q`, and zero outside the picture. -/
def pixel (T : Pic) (c r q : ℕ) : ℝ :=
  if h : c < 3 ∧ r < 384 ∧ q < 384 then T (ix3 ⟨c, h.1⟩ ⟨r, h.2.1⟩ ⟨q, h.2.2⟩) else 0

/-- A picture at an index is the pixel at the index's coordinates. -/
theorem eq_pixel (T : Pic) (i : Frame.Idx) (c r q : ℕ) (hc : (i 0).val = c) (hr : (i 1).val = r) (hq : (i 2).val = q) :
    T i = pixel T c r q := by
  subst hc hr hq
  unfold pixel
  rw [dif_pos ⟨(i 0).isLt, (i 1).isLt, (i 2).isLt⟩]
  exact congrArg T (eq_ix3 i)

/-- The nine pixels of the window whose upper left corner is at row `p`, column `q`, in row-major order. -/
def window (T : Pic) (p q : ℕ) (k : Fin 9) (c : Fin 3) : ℝ := pixel T c.val (p + k.val / 3) (q + k.val % 3)

/-- The side conditions the precondition states. -/
theorem pre_facts : Cert.Pre_finite.Facts where
  bcast_S_S3x384x384 := by decide
  reducesTo_S3x384x384_S_d0_1_2 := by decide
  h_S_ := by decide

/-- A conjunction of bits over a set is one only when every bit is. -/
theorem bit_of_fold {ι : Type} [DecidableEq ι] (s : Finset ι) (f : ι → BitVec 1) (b : BitVec 1)
    (h : s.fold IntOp.andi b f = 1#1) : ∀ i ∈ s, f i = 1#1 := by
  have hand : ∀ x y : BitVec 1, IntOp.andi x y = 1#1 → x = 1#1 ∧ y = 1#1 := by decide
  induction s using Finset.cons_induction with
  | empty => simp
  | cons a s ha ih =>
    rw [Finset.fold_cons] at h
    intro i hi
    rcases Finset.mem_cons.1 hi with rfl | hi
    · exact (hand _ _ h).1
    · exact ih (hand _ _ h).2 i hi

/-- An extended real whose magnitude compares below the word of infinity is a real number. -/
theorem real_of_bit (x : EReal) (h : Ideal.cmp .olt (max x (-x)) (Ideal.ofBits .f32 0x7F800000#32) = 1#1) :
    x = ((x.toReal : ℝ) : EReal) := by
  have hinf : Ideal.ofBits .f32 0x7F800000#32 = ⊤ := by simp [Ideal.ofBits, Ideal.ieee]
  rw [hinf] at h
  have hlt : max x (-x) < ⊤ := by
    unfold Ideal.cmp at h
    by_contra hc
    simp [hc] at h
  refine (EReal.coe_toReal ?_ ?_).symm
  · rintro rfl; simp at hlt
  · rintro rfl; simp at hlt

/-- One argument's half of the precondition makes it a table of real numbers. -/
theorem real_of_all [Cert.Pre_finite.Facts] (x : FVec Ideal Frame .f32)
    (h : Host.reduce IntOp.andi (cmpf .olt (Host.absf x) (broadcastInDim Cert.Pre_finite.S3x384x384 ![]
        Cert.Pre_finite.Facts.bcast_S_S3x384x384 (constant Cert.Pre_finite.S_ .f32 0x7F800000#32)))
      (constantI Cert.Pre_finite.S_ 1 1#1) Cert.Pre_finite.Facts.reducesTo_S3x384x384_S_d0_1_2 Cert.Pre_finite.Facts.h_S_ ix0
      = 1#1) : ∃ T : Pic, x = lift T := by
  rw [Host.reduce_eq_fold] at h
  refine ⟨fun i => (x i).toReal, funext fun i => real_of_bit (x i) ?_⟩
  exact bit_of_fold _ _ _ h i (Finset.mem_filter.2 ⟨Finset.mem_univ _, funext fun a => a.elim0⟩)

/-- The precondition makes both arguments tables of real numbers. -/
theorem real_of_pre [Cert.Pre_finite.Facts] (x y : FVec Ideal Frame .f32)
    (h : Cert.Pre_finite.fn (F := Ideal) x y = fun _ => 1#1) : (∃ T : Pic, x = lift T) ∧ ∃ U : Pic, y = lift U := by
  have hand : ∀ x y : BitVec 1, IntOp.andi x y = 1#1 → x = 1#1 ∧ y = 1#1 := by decide
  have h0 := hand _ _ (congrFun h ix0)
  exact ⟨real_of_all x h0.1, real_of_all y h0.2⟩

end Cert.Matting

end
-- ==== Proof.KernelValue.lean ====
/- What the kernel computes on pictures of real numbers: at each window the closed form of the window's share, and in the one
   result element their sum. -/
module

public import proofs.«01_k».proof.Proof.Pixels
public import proofs.«01_k».proof.Proof.Gen.KernelIdeal.Value

@[expose] public section

noncomputable section

namespace Cert.Matting

open Idealize.ShloMosaic Idealize.ShloMosaic.ValueIdx Idealize.ShloMosaic.StableHlo
open Cert.KernelIdeal Cert.KernelIdeal.Gen

/-- A finite sum of real numbers, taken in the extended reals. -/
theorem coe_sum {ι : Type} (s : Finset ι) (f : ι → ℝ) : ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- A table of real numbers as a two-axis array of extended reals. -/
def up {h w : ℕ} (f : ℕ → ℕ → ℝ) : FVec Ideal ⟨2, ![h, w]⟩ .f32 := fun j => ((f (j 0).val (j 1).val : ℝ) : EReal)

variable {h w : ℕ} (f g : ℕ → ℕ → ℝ)

/-- Two tables are the same array when they agree everywhere. -/
theorem up_congr {f g : ℕ → ℕ → ℝ} (hfg : ∀ p q, f p q = g p q) : up (h := h) (w := w) f = up g := by
  rw [funext fun p => funext fun q => hfg p q]

/-- The elementwise sum of two tables. -/
theorem up_add : addf (up (h := h) (w := w) f) (up g) = up fun p q => f p q + g p q :=
  funext fun _ => (EReal.coe_add _ _).symm

/-- The elementwise difference of two tables. -/
theorem up_sub : subf (up (h := h) (w := w) f) (up g) = up fun p q => f p q - g p q :=
  funext fun _ => (EReal.coe_sub _ _).symm

/-- The elementwise product of two tables. -/
theorem up_mul : mulf (up (h := h) (w := w) f) (up g) = up fun p q => f p q * g p q :=
  funext fun _ => (EReal.coe_mul _ _).symm

/-- The elementwise quotient of two tables, the second nowhere zero. -/
theorem up_div (hg : ∀ p q, g p q ≠ 0) : divf (up (h := h) (w := w) f) (up g) = up fun p q => f p q / g p q :=
  funext fun j => by
    show Ideal.div _ _ = _
    unfold up
    rw [Ideal.div_coe (hg _ _), ← EReal.coe_mul, mul_one_div]

/-- A block of a table. -/
theorem up_slice {h' w' : ℕ} (a b : ℕ) (hs : (⟨2, ![h, w]⟩ : Shape).Slices ![a, b] ⟨2, ![h', w']⟩) :
    extractStridedSlice ⟨2, ![h', w']⟩ ![a, b] (up (h := h) (w := w) f) hs = up fun p q => f (p + a) (q + b) := by
  simp only [Nat.add_comm _ a, Nat.add_comm _ b]; rfl

/-- The array of a named ninth. -/
abbrev ninth : FVec Ideal S382x382 .f32 := broadcast S382x382 (Named.named (F := Ideal) κ "ninv" 0x3DE38E39#32)

/-- The array of the named diagonal term. -/
abbrev epsn : FVec Ideal S382x382 .f32 := broadcast S382x382 (Named.named (F := Ideal) κ "epsn" 0x323EE32F#32)

/-- The named ninth is a ninth. -/
theorem up_ninth : ninth = up fun _ _ => 1 / 9 :=
  funext fun _ => IdealRules.named_const.ideal_named_scalar _ _ _ _ rfl

/-- The named diagonal term is a ninth of `10⁻⁷`. -/
theorem up_eps : epsn = up fun _ _ => 1 / 90000000 :=
  funext fun _ => IdealRules.named_const.ideal_named_scalar _ _ _ _ rfl

/-- The literal two, spread over an array. -/
theorem up_two : broadcast ⟨2, ![h, w]⟩ (Scalar.ofBits (F := Ideal) .f32 0x40000000#32) = up fun _ _ => 2 :=
  funext fun _ => by
    show Ideal.ofBits .f32 0x40000000#32 = ((2 : ℝ) : EReal)
    simp [Ideal.ofBits, Ideal.ieee, -EReal.coe_mul]; norm_num

/-- The kernel's sum over three rows and then three columns. -/
def box3 (x : FVec Ideal S384x384 .f32) : FVec Ideal S382x382 .f32 :=
  let r : FVec Ideal S382x384 .f32 :=
    addf (addf (extractStridedSlice S382x384 ![0, 0] x slices_S384x384_o0_0_S382x384)
      (extractStridedSlice S382x384 ![1, 0] x slices_S384x384_o1_0_S382x384))
      (extractStridedSlice S382x384 ![2, 0] x slices_S384x384_o2_0_S382x384)
  addf (addf (extractStridedSlice S382x382 ![0, 0] r slices_S382x384_o0_0_S382x382)
    (extractStridedSlice S382x382 ![0, 1] r slices_S382x384_o0_1_S382x382))
    (extractStridedSlice S382x382 ![0, 2] r slices_S382x384_o0_2_S382x382)

/-- It is the sum over the window. -/
theorem up_box3 : box3 (up f) = up fun p q => ∑ k : Fin 9, f (p + k.val / 3) (q + k.val % 3) := by
  unfold box3
  simp only [up_slice, up_add]
  refine up_congr fun p q => ?_
  rw [Fin.sum_univ_castSucc, Fin.sum_univ_eight]
  simp
  ring

variable (T U : Pic)

/-- One channel of a picture, cut out of the array. -/
theorem up_channel (c : ℕ) (hc : c < 3) (hs : S3x384x384.Slices ![c, 0, 0] S1x384x384) (hr : S1x384x384.ShapeCasts S384x384) :
    shapeCast S384x384 (extractStridedSlice S1x384x384 ![c, 0, 0] (lift T) hs) hr = up (pixel T c) := by
  funext j
  refine (shapeCast_dropUnit_apply ![384, 384] _ hr j).trans ?_
  refine (extractStridedSlice_apply _ _ hs _ (ix3 ⟨c, hc⟩ (j 0) (j 1)) fun a => ?_).trans ?_
  · match a with
    | ⟨0, _⟩ => rfl
    | ⟨1, _⟩ => exact (Nat.zero_add _).symm
    | ⟨2, _⟩ => exact (Nat.zero_add _).symm
  exact congrArg (fun x : ℝ => (x : EReal)) (eq_pixel T _ _ _ _ rfl rfl rfl)

/-- A load of a whole picture. -/
theorem ld_whole (x : Vec Ideal S3x384x384 .f32) : View.ld x r0_0 = x :=
  View.ld_unit_zero (funext fun a => by fin_cases a <;> rfl) _ x

/-- The two pictures' channels. -/
theorem chan_t0 : k0_pay67 (lift T) (lift U) = up (pixel T 0) := by
  unfold k0_pay67; rw [ld_whole]; exact up_channel T 0 (by decide) _ _

theorem chan_t1 : k0_pay68 (lift T) (lift U) = up (pixel T 1) := by
  unfold k0_pay68; rw [ld_whole]; exact up_channel T 1 (by decide) _ _

theorem chan_t2 : k0_pay69 (lift T) (lift U) = up (pixel T 2) := by
  unfold k0_pay69; rw [ld_whole]; exact up_channel T 2 (by decide) _ _

theorem chan_u0 : k0_pay70 (lift T) (lift U) = up (pixel U 0) := by
  unfold k0_pay70; rw [ld_whole]; exact up_channel U 0 (by decide) _ _

theorem chan_u1 : k0_pay71 (lift T) (lift U) = up (pixel U 1) := by
  unfold k0_pay71; rw [ld_whole]; exact up_channel U 1 (by decide) _ _

theorem chan_u2 : k0_pay72 (lift T) (lift U) = up (pixel U 2) := by
  unfold k0_pay72; rw [ld_whole]; exact up_channel U 2 (by decide) _ _

/-- The window sum of a channel. -/
theorem box3_tot (c : Fin 3) : box3 (up (pixel T c.val)) = up fun p q => tot (window T p q) c := up_box3 _

/-- The window sum of the product of two channels. -/
theorem box3_dots (c d : Fin 3) : box3 (mulf (up (pixel T c.val)) (up (pixel U d.val)))
    = up fun p q => dots (window T p q) (window U p q) c d := by
  rw [up_mul, up_box3]; rfl

/-- The window sums of the first picture's channels. -/
theorem tot_t0 : k0_pay73 (lift T) (lift U) = up fun p q => tot (window T p q) 0 := by
  rw [← box3_tot]; refine Eq.trans ?_ (congrArg box3 (chan_t0 T U)); rfl

theorem tot_t1 : k0_pay74 (lift T) (lift U) = up fun p q => tot (window T p q) 1 := by
  rw [← box3_tot]; refine Eq.trans ?_ (congrArg box3 (chan_t1 T U)); rfl

theorem tot_t2 : k0_pay75 (lift T) (lift U) = up fun p q => tot (window T p q) 2 := by
  rw [← box3_tot]; refine Eq.trans ?_ (congrArg box3 (chan_t2 T U)); rfl

/-- The window sums of the second picture's channels. -/
theorem tot_u0 : k0_pay76 (lift T) (lift U) = up fun p q => tot (window U p q) 0 := by
  rw [← box3_tot]; refine Eq.trans ?_ (congrArg box3 (chan_u0 T U)); rfl

theorem tot_u1 : k0_pay77 (lift T) (lift U) = up fun p q => tot (window U p q) 1 := by
  rw [← box3_tot]; refine Eq.trans ?_ (congrArg box3 (chan_u1 T U)); rfl

theorem tot_u2 : k0_pay78 (lift T) (lift U) = up fun p q => tot (window U p q) 2 := by
  rw [← box3_tot]; refine Eq.trans ?_ (congrArg box3 (chan_u2 T U)); rfl

/-- A window sum times a ninth is the mean. -/
theorem up_avg (a : Fin 3) : mulf (up fun p q => tot (window T p q) a) ninth = up fun p q => avg (window T p q) a := by
  rw [up_ninth, up_mul]
  exact up_congr fun p q => mul_one_div _ _

/-- An entry of the covariance off the diagonal. -/
theorem up_cov_off (a b : Fin 3) (hab : a ≠ b) :
    subf (mulf (up fun p q => dots (window T p q) (window T p q) a b) ninth)
      (mulf (up fun p q => avg (window T p q) a) (up fun p q => avg (window T p q) b))
      = up fun p q => cov (window T p q) a b := by
  rw [up_ninth, up_mul, up_mul, up_sub]
  refine up_congr fun p q => ?_
  simp only [cov, if_neg hab]; ring

/-- An entry of the covariance on the diagonal. -/
theorem up_cov_diag (a : Fin 3) :
    addf (subf (mulf (up fun p q => dots (window T p q) (window T p q) a a) ninth)
      (mulf (up fun p q => avg (window T p q) a) (up fun p q => avg (window T p q) a))) epsn
      = up fun p q => cov (window T p q) a a := by
  rw [up_ninth, up_eps, up_mul, up_mul, up_sub, up_add]
  refine up_congr fun p q => ?_
  simp only [cov, if_true]; ring

/-- An entry of the cross covariance. -/
theorem up_cross (a d : Fin 3) :
    subf (up (h := 382) (w := 382) fun p q => dots (window T p q) (window U p q) a d)
      (mulf (up fun p q => avg (window T p q) a) (up fun p q => tot (window U p q) d))
      = up fun p q => cross (window T p q) (window U p q) a d := by
  rw [up_mul, up_sub]; rfl

theorem avg_t0 : k0_pay86 (lift T) (lift U) = up fun p q => avg (window T p q) 0 := by
  rw [← up_avg, ← tot_t0 T U]; rfl

theorem avg_t1 : k0_pay87 (lift T) (lift U) = up fun p q => avg (window T p q) 1 := by
  rw [← up_avg, ← tot_t1 T U]; rfl

theorem avg_t2 : k0_pay88 (lift T) (lift U) = up fun p q => avg (window T p q) 2 := by
  rw [← up_avg, ← tot_t2 T U]; rfl

theorem cov_00 : k0_pay89 (lift T) (lift U) = up fun p q => cov (window T p q) 0 0 := by
  rw [← up_cov_diag T 0, ← box3_dots T T 0 0, ← avg_t0 T U]
  show _ = addf (subf (mulf (box3 (mulf (up (pixel T 0)) (up (pixel T 0)))) _) _) _
  rw [← chan_t0 T U]; rfl

theorem cov_01 : k0_pay90 (lift T) (lift U) = up fun p q => cov (window T p q) 0 1 := by
  rw [← up_cov_off T 0 1 (by decide), ← box3_dots T T 0 1, ← avg_t0 T U, ← avg_t1 T U]
  show _ = subf (mulf (box3 (mulf (up (pixel T 0)) (up (pixel T 1)))) _) _
  rw [← chan_t0 T U, ← chan_t1 T U]; rfl

theorem cov_02 : k0_pay91 (lift T) (lift U) = up fun p q => cov (window T p q) 0 2 := by
  rw [← up_cov_off T 0 2 (by decide), ← box3_dots T T 0 2, ← avg_t0 T U, ← avg_t2 T U]
  show _ = subf (mulf (box3 (mulf (up (pixel T 0)) (up (pixel T 2)))) _) _
  rw [← chan_t0 T U, ← chan_t2 T U]; rfl

theorem cov_11 : k0_pay92 (lift T) (lift U) = up fun p q => cov (window T p q) 1 1 := by
  rw [← up_cov_diag T 1, ← box3_dots T T 1 1, ← avg_t1 T U]
  show _ = addf (subf (mulf (box3 (mulf (up (pixel T 1)) (up (pixel T 1)))) _) _) _
  rw [← chan_t1 T U]; rfl

theorem cov_12 : k0_pay93 (lift T) (lift U) = up fun p q => cov (window T p q) 1 2 := by
  rw [← up_cov_off T 1 2 (by decide), ← box3_dots T T 1 2, ← avg_t1 T U, ← avg_t2 T U]
  show _ = subf (mulf (box3 (mulf (up (pixel T 1)) (up (pixel T 2)))) _) _
  rw [← chan_t1 T U, ← chan_t2 T U]; rfl

theorem cov_22 : k0_pay45 (k0_pay79 (lift T) (lift U)) (k0_pay88 (lift T) (lift U)) = up fun p q => cov (window T p q) 2 2 := by
  rw [← up_cov_diag T 2, ← box3_dots T T 2 2, ← avg_t2 T U]
  show _ = addf (subf (mulf (box3 (mulf (up (pixel T 2)) (up (pixel T 2)))) _) _) _
  rw [← chan_t2 T U]; rfl

theorem cross_00 : k0_pay53 (k0_pay76 (lift T) (lift U)) (k0_pay80 (lift T) (lift U)) (k0_pay86 (lift T) (lift U)) = up fun p q => cross (window T p q) (window U p q) 0 0 := by
  rw [← up_cross T U 0 0, ← box3_dots T U 0 0, ← avg_t0 T U, ← tot_u0 T U]
  show _ = subf (box3 (mulf (up (pixel T 0)) (up (pixel U 0)))) _
  rw [← chan_t0 T U, ← chan_u0 T U]; rfl

theorem cross_01 : k0_pay54 (k0_pay77 (lift T) (lift U)) (k0_pay81 (lift T) (lift U)) (k0_pay86 (lift T) (lift U)) = up fun p q => cross (window T p q) (window U p q) 0 1 := by
  rw [← up_cross T U 0 1, ← box3_dots T U 0 1, ← avg_t0 T U, ← tot_u1 T U]
  show _ = subf (box3 (mulf (up (pixel T 0)) (up (pixel U 1)))) _
  rw [← chan_t0 T U, ← chan_u1 T U]; rfl

theorem cross_02 : k0_pay55 (k0_pay78 (lift T) (lift U)) (k0_pay82 (lift T) (lift U)) (k0_pay86 (lift T) (lift U)) = up fun p q => cross (window T p q) (window U p q) 0 2 := by
  rw [← up_cross T U 0 2, ← box3_dots T U 0 2, ← avg_t0 T U, ← tot_u2 T U]
  show _ = subf (box3 (mulf (up (pixel T 0)) (up (pixel U 2)))) _
  rw [← chan_t0 T U, ← chan_u2 T U]; rfl

theorem cross_10 : k0_pay94 (lift T) (lift U) = up fun p q => cross (window T p q) (window U p q) 1 0 := by
  rw [← up_cross T U 1 0, ← box3_dots T U 1 0, ← avg_t1 T U, ← tot_u0 T U]
  show _ = subf (box3 (mulf (up (pixel T 1)) (up (pixel U 0)))) _
  rw [← chan_t1 T U, ← chan_u0 T U]; rfl

theorem cross_11 : k0_pay95 (lift T) (lift U) = up fun p q => cross (window T p q) (window U p q) 1 1 := by
  rw [← up_cross T U 1 1, ← box3_dots T U 1 1, ← avg_t1 T U, ← tot_u1 T U]
  show _ = subf (box3 (mulf (up (pixel T 1)) (up (pixel U 1)))) _
  rw [← chan_t1 T U, ← chan_u1 T U]; rfl

theorem cross_12 : k0_pay96 (lift T) (lift U) = up fun p q => cross (window T p q) (window U p q) 1 2 := by
  rw [← up_cross T U 1 2, ← box3_dots T U 1 2, ← avg_t1 T U, ← tot_u2 T U]
  show _ = subf (box3 (mulf (up (pixel T 1)) (up (pixel U 2)))) _
  rw [← chan_t1 T U, ← chan_u2 T U]; rfl

theorem cross_20 : k0_pay97 (lift T) (lift U) = up fun p q => cross (window T p q) (window U p q) 2 0 := by
  rw [← up_cross T U 2 0, ← box3_dots T U 2 0, ← avg_t2 T U, ← tot_u0 T U]
  show _ = subf (box3 (mulf (up (pixel T 2)) (up (pixel U 0)))) _
  rw [← chan_t2 T U, ← chan_u0 T U]; rfl

theorem cross_21 : k0_pay98 (lift T) (lift U) = up fun p q => cross (window T p q) (window U p q) 2 1 := by
  rw [← up_cross T U 2 1, ← box3_dots T U 2 1, ← avg_t2 T U, ← tot_u1 T U]
  show _ = subf (box3 (mulf (up (pixel T 2)) (up (pixel U 1)))) _
  rw [← chan_t2 T U, ← chan_u1 T U]; rfl

theorem cross_22 : k0_pay99 (lift T) (lift U) = up fun p q => cross (window T p q) (window U p q) 2 2 := by
  rw [← up_cross T U 2 2, ← box3_dots T U 2 2, ← avg_t2 T U, ← tot_u2 T U]
  show _ = subf (box3 (mulf (up (pixel T 2)) (up (pixel U 2)))) _
  rw [← chan_t2 T U, ← chan_u2 T U]; rfl

/-- The determinant of the covariance. -/
theorem det_eq : k0_pay52 (k0_pay79 (lift T) (lift U)) (k0_pay88 (lift T) (lift U)) (k0_pay89 (lift T) (lift U)) (k0_pay90 (lift T) (lift U)) (k0_pay91 (lift T) (lift U)) (k0_pay92 (lift T) (lift U)) (k0_pay93 (lift T) (lift U))
    = up fun p q => det3 (cov (window T p q)) := by
  simp only [k0_pay52, k0_pay46, k0_pay47, k0_pay48, cov_00, cov_01, cov_02, cov_11, cov_12, cov_22, up_mul, up_sub, up_add]
  rfl

/-- The sum of the second picture's squares over the window. -/
theorem energy_eq : k0_pay13 (k0_pay70 (lift T) (lift U)) (k0_pay71 (lift T) (lift U)) (k0_pay72 (lift T) (lift U)) = up fun p q => energy (window U p q) := by
  rw [chan_u0, chan_u1, chan_u2]
  show box3 (addf (addf (mulf _ _) (mulf _ _)) (mulf _ _)) = _
  rw [up_mul, up_mul, up_mul, up_add, up_add, up_box3]; rfl

/-- The cofactors summed against the inner products of the cross covariance's rows, as the kernel orders them. -/
theorem quad_eq :
    addf (addf (addf (k0_pay62 (k0_pay76 (lift T) (lift U)) (k0_pay77 (lift T) (lift U)) (k0_pay78 (lift T) (lift U)) (k0_pay79 (lift T) (lift U)) (k0_pay80 (lift T) (lift U)) (k0_pay81 (lift T) (lift U)) (k0_pay82 (lift T) (lift U)) (k0_pay86 (lift T) (lift U)) (k0_pay88 (lift T) (lift U)) (k0_pay92 (lift T) (lift U)) (k0_pay93 (lift T) (lift U)))
        (mulf (k0_pay49 (k0_pay79 (lift T) (lift U)) (k0_pay88 (lift T) (lift U)) (k0_pay89 (lift T) (lift U)) (k0_pay91 (lift T) (lift U))) (k0_pay63 (k0_pay76 (lift T) (lift U)) (k0_pay77 (lift T) (lift U)) (k0_pay78 (lift T) (lift U)) (k0_pay83 (lift T) (lift U)) (k0_pay84 (lift T) (lift U)) (k0_pay85 (lift T) (lift U)) (k0_pay87 (lift T) (lift U)))))
        (mulf (k0_pay51 (k0_pay89 (lift T) (lift U)) (k0_pay90 (lift T) (lift U)) (k0_pay92 (lift T) (lift U)))
          (addf (addf (mulf (k0_pay97 (lift T) (lift U)) (k0_pay97 (lift T) (lift U))) (mulf (k0_pay98 (lift T) (lift U)) (k0_pay98 (lift T) (lift U)))) (mulf (k0_pay99 (lift T) (lift U)) (k0_pay99 (lift T) (lift U))))))
      (mulf (broadcast S382x382 (Scalar.ofBits (F := Ideal) .f32 0x40000000#32))
        (k0_pay65 (k0_pay50 (k0_pay89 (lift T) (lift U)) (k0_pay90 (lift T) (lift U)) (k0_pay91 (lift T) (lift U)) (k0_pay93 (lift T) (lift U))) (k0_pay94 (lift T) (lift U)) (k0_pay95 (lift T) (lift U)) (k0_pay96 (lift T) (lift U)) (k0_pay97 (lift T) (lift U)) (k0_pay98 (lift T) (lift U)) (k0_pay99 (lift T) (lift U))
          (k0_pay64 (k0_pay47 (k0_pay79 (lift T) (lift U)) (k0_pay88 (lift T) (lift U)) (k0_pay90 (lift T) (lift U)) (k0_pay91 (lift T) (lift U)) (k0_pay93 (lift T) (lift U))) (k0_pay48 (k0_pay90 (lift T) (lift U)) (k0_pay91 (lift T) (lift U)) (k0_pay92 (lift T) (lift U)) (k0_pay93 (lift T) (lift U)))
            (k0_pay53 (k0_pay76 (lift T) (lift U)) (k0_pay80 (lift T) (lift U)) (k0_pay86 (lift T) (lift U))) (k0_pay54 (k0_pay77 (lift T) (lift U)) (k0_pay81 (lift T) (lift U)) (k0_pay86 (lift T) (lift U))) (k0_pay55 (k0_pay78 (lift T) (lift U)) (k0_pay82 (lift T) (lift U)) (k0_pay86 (lift T) (lift U)))
            (k0_pay94 (lift T) (lift U)) (k0_pay95 (lift T) (lift U)) (k0_pay96 (lift T) (lift U)) (k0_pay97 (lift T) (lift U)) (k0_pay98 (lift T) (lift U)) (k0_pay99 (lift T) (lift U)))))
      = up fun p q => quad (window T p q) (window U p q) := by
  have h10 : k0_pay56 (k0_pay76 (lift T) (lift U)) (k0_pay83 (lift T) (lift U)) (k0_pay87 (lift T) (lift U)) = up fun p q => cross (window T p q) (window U p q) 1 0 := by
    have h := cross_10 T U
    unfold k0_pay94 at h
    exact h
  have h11 : k0_pay57 (k0_pay77 (lift T) (lift U)) (k0_pay84 (lift T) (lift U)) (k0_pay87 (lift T) (lift U)) = up fun p q => cross (window T p q) (window U p q) 1 1 := by
    have h := cross_11 T U
    unfold k0_pay95 at h
    exact h
  have h12 : k0_pay58 (k0_pay78 (lift T) (lift U)) (k0_pay85 (lift T) (lift U)) (k0_pay87 (lift T) (lift U)) = up fun p q => cross (window T p q) (window U p q) 1 2 := by
    have h := cross_12 T U
    unfold k0_pay96 at h
    exact h
  simp only [k0_pay62, k0_pay63, k0_pay64, k0_pay65, k0_pay46, k0_pay47, k0_pay48, k0_pay49, k0_pay50, k0_pay51,
    h10, h11, h12, cross_00, cross_01, cross_02, cross_10, cross_11, cross_12, cross_20, cross_21, cross_22,
    cov_00, cov_01, cov_02, cov_11, cov_12, cov_22, up_two, up_mul, up_sub, up_add]
  rfl

/-- The kernel's last steps: an array summed over both axes, into the one element of the result. -/
def total (x : FVec Ideal S382x382 .f32) : FVec Ideal S1x1 .f32 :=
  broadcast S1x1 (extractAt ![0, 0, 0] (shapeCast S1x1x1 (multiReduction .add [1, 2] S1
    (shapeCast S1x382x382 x shapeCasts_S382x382_S1x382x382) 0x00000000#32 reduces_S1x382x382_S1 (.inl rfl) rfl)
    shapeCasts_S1_S1x1x1) inpos_S1x1x1_p0_0_0)

/-- On a table of real numbers they leave the sum of the table. -/
theorem total_up (j : S1x1.Idx) : total (up f) j = ((∑ p : Fin 382, ∑ q : Fin 382, f p.val q.val : ℝ) : EReal) := by
  have h0 : ∀ (v : FVec Ideal S1 .f32) (c : EReal), (∀ k, v k = c) → (broadcast S1x1 (extractAt ![0, 0, 0]
      (shapeCast S1x1x1 v shapeCasts_S1_S1x1x1) inpos_S1x1x1_p0_0_0) : FVec Ideal S1x1 .f32) j = c := fun v c hv => hv _
  refine (h0 _ _ fun k => Ideal.multiReduction_add_total _ 0x00000000#32 reduces_S1x382x382_S1 (fun b => by fin_cases b; rfl)
    (.inl rfl) rfl k).trans ?_
  have h2 : ∑ i : S1x382x382.Idx, shapeCast S1x382x382 (up f) shapeCasts_S382x382_S1x382x382 i = ∑ k : S382x382.Idx, up f k :=
    Fintype.sum_equiv (Shape.reshapeEquiv shapeCasts_S382x382_S1x382x382) _ _ fun _ => rfl
  rw [h2, sum_idx2, coe_sum]
  refine Finset.sum_congr rfl fun p _ => ?_
  rw [coe_sum]; rfl

/-- The kernel's result on two pictures of real numbers is the sum of the windows' shares in closed form. -/
theorem kernel_value (j : S1x1.Idx) : Value.G2 (F := Ideal) (lift T) (lift U) j
    = ((∑ p : Fin 382, ∑ q : Fin 382, closed (window T p.val q.val) (window U p.val q.val) : ℝ) : EReal) := by
  have h1 : Value.G2 (F := Ideal) (lift T) (lift U) = total (subf (k0_pay13 (k0_pay70 (lift T) (lift U)) (k0_pay71 (lift T) (lift U)) (k0_pay72 (lift T) (lift U))) (mulf ninth
      (addf (addf (addf (mulf (k0_pay76 (lift T) (lift U)) (k0_pay76 (lift T) (lift U))) (mulf (k0_pay77 (lift T) (lift U)) (k0_pay77 (lift T) (lift U)))) (mulf (k0_pay78 (lift T) (lift U)) (k0_pay78 (lift T) (lift U)))) (divf
        (up fun p q => quad (window T p q) (window U p q)) (up fun p q => det3 (cov (window T p q))))))) := by
    rw [← quad_eq, ← det_eq T U]; rfl
  rw [h1, energy_eq, tot_u0, tot_u1, tot_u2, up_div _ _ fun p q => (det3_pos _).ne', up_ninth, up_mul, up_mul, up_mul, up_add,
    up_add, up_add, up_mul, up_sub, total_up]
  rfl

end Cert.Matting

end
-- ==== Proof.RefIndex.lean ====
/- The reference's index table: the position in the flattened picture of each pixel of each window, and what its gathers and its
   scatter read and write there. -/
module

public import proofs.«01_k».proof.Proof.KernelValue
public import proofs.«01_k».proof.Proof.Gen.ReferenceIdeal.Read
public import Idealize.ShloMosaic.Lib.StableHlo.Predicate

@[expose] public section

noncomputable section

namespace Cert.Matting

open Idealize.ShloMosaic Idealize.ShloMosaic.ValueIdx Idealize.ShloMosaic.StableHlo.Predicate
open Cert.ReferenceIdeal Cert.ReferenceIdeal.Gen Cert.ReferenceIdeal.Read

/-- The position in a flattened channel of pixel `k` of window `w`. -/
def pos (w k : ℕ) : ℕ := (w / 382 + k / 3) * 384 + (w % 382 + k % 3)

/-- A position lies in the picture. -/
theorem pos_lt {w k : ℕ} (hw : w < 145924) (hk : k < 9) : pos w k < 147456 := by unfold pos; omega

/-- The words the table is built from add and multiply as numbers. -/
theorem pos_word (a b c d : ℕ) : IntOp.addi (IntOp.muli (IntOp.addi (BitVec.ofNat 32 a) (BitVec.ofNat 32 c)) 384#32)
    (IntOp.addi (BitVec.ofNat 32 b) (BitVec.ofNat 32 d)) = BitVec.ofNat 32 ((a + c) * 384 + (b + d)) := by
  show (BitVec.ofNat 32 a + BitVec.ofNat 32 c) * BitVec.ofNat 32 384 + (BitVec.ofNat 32 b + BitVec.ofNat 32 d) = _
  simp only [← BitVec.ofNat_add, ← BitVec.ofNat_mul]

/-- The table holds the positions. -/
theorem table_at (i : S145924x9.Idx) : val_main_v9 (F := Ideal) i = BitVec.ofNat 32 (pos (i 0).val (i 1).val) := by
  have h0 : (i 0).val < 145924 := (i 0).isLt
  have h1 : (i 1).val < 9 := (i 1).isLt
  rw [val_main_v9_apply, val_main_v8_apply, val_main_v6_apply, val_main_v7_apply, val_main_v4_apply, val_main_v5_apply]
  refine (pos_word _ _ _ _).trans (congrArg (BitVec.ofNat 32) ?_)
  show (((i 0).val * 9 + (i 1).val) / 3438 + ((i 0).val * 9 + (i 1).val) / 3 % 3) * 384
    + (((i 0).val * 9 + (i 1).val) / 9 % 382 + ((i 0).val * 9 + (i 1).val) % 3) = pos (i 0).val (i 1).val
  unfold pos
  omega

/-- The step that would move a negative index does not move a position. -/
theorem keep_word (n : ℕ) (hn : n < 147456) (x : BitVec 32) :
    Scalar.select (IntOp.cmpi .slt (BitVec.ofNat 32 n) 0#32) x (BitVec.ofNat 32 n) = BitVec.ofNat 32 n := by
  have h : (BitVec.ofNat 32 n).toNat = n := by rw [BitVec.toNat_ofNat]; omega
  refine if_neg fun hc => ?_
  have := (slt_iff_toNat (by rw [h]; omega) (by decide)).1 hc
  simp at this

/-- A position read as a signed word. -/
theorem pos_int (n : ℕ) (hn : n < 147456) : (BitVec.ofNat 32 n).toInt = n := toInt_ofNat_small n (by omega)

/-- The indices of the gather of windows. -/
theorem win_index (i : S145924x9x1.Idx) :
    val_main_v17 (F := Ideal) i = BitVec.ofNat 32 (pos (i 0).val (i 1).val) := by
  rw [val_main_v17_apply, val_main_v16_apply, val_main_v13_apply, val_main_v12_apply, table_at]
  exact keep_word _ (pos_lt (i 0).isLt (i 1).isLt) _

/-- The rows of the sparse matrix: entry `n` belongs to window `n / 81` and its pixel `n / 9 % 9`. -/
theorem row_index (i : S11819844x1.Idx) :
    val_main_v130 (F := Ideal) i = BitVec.ofNat 32 (pos ((i 0).val / 81) ((i 0).val / 9 % 9)) := by
  have h0 : (i 0).val < 11819844 := (i 0).isLt
  rw [val_main_v130_apply, val_main_v129_apply, val_main_v126_apply, val_main_v125_apply, val_main_v106_apply,
    val_main_v105_apply, val_main_v104_apply, table_at]
  have hw : (i 0).val / 9 / 9 = (i 0).val / 81 := by omega
  have hp : pos ((i 0).val / 9 / 9) ((i 0).val / 9 % 9) < 147456 := pos_lt (by omega) (by omega)
  refine (keep_word _ hp _).trans ?_
  show BitVec.ofNat 32 (pos ((i 0).val / 9 / 9) ((i 0).val / 9 % 9)) = _
  rw [hw]

/-- The columns of the sparse matrix: entry `n` belongs to window `n / 81` and its pixel `n % 9`. -/
theorem col_index (i : S11819844x1.Idx) :
    val_main_v121 (F := Ideal) i = BitVec.ofNat 32 (pos ((i 0).val / 81) ((i 0).val % 9)) := by
  have h0 : (i 0).val < 11819844 := (i 0).isLt
  rw [val_main_v121_apply, val_main_v120_apply, val_main_v117_apply, val_main_v116_apply, val_main_v110_apply,
    val_main_v109_apply, val_main_v108_apply, val_main_v107_apply, table_at]
  have hw : (((0 * 145924 + ((i 0).val / 81 * 81 + (i 0).val % 81) / 81 % 145924) * 1 + 0) * 9
      + ((i 0).val / 81 * 81 + (i 0).val % 81) % 9) / 9 = (i 0).val / 81 := by omega
  have hk : (((0 * 145924 + ((i 0).val / 81 * 81 + (i 0).val % 81) / 81 % 145924) * 1 + 0) * 9
      + ((i 0).val / 81 * 81 + (i 0).val % 81) % 9) % 9 = (i 0).val % 9 := by omega
  have hp : pos ((i 0).val / 81) ((i 0).val % 9) < 147456 := pos_lt (by omega) (by omega)
  rw [← hw, ← hk] at hp ⊢
  exact keep_word _ hp _

/-- An axis of a matrix is its first or its second. -/
theorem two (a : Fin 2) : a = 0 ∨ a = 1 := by omega

/-- The gather of windows reads the flattened picture at the index it is given. -/
theorem gather_win {α : Type} (x : S147456x3.Idx → α) (idx : IVec S145924x9x1 32) (y : S145924x9x3.Idx) (n : ℕ)
    (hn : n < 147456) (h : ∀ z : S145924x9x1.Idx, (z 0).val = (y 0).val → (z 1).val = (y 1).val → (idx z).toInt = n) :
    Host.gather gather_S147456x3_S145924x9x1_S145924x9x3_2_0_n_n_0_2_13 x idx y = x (ix2 ⟨n, hn⟩ ⟨(y 2).val, (y 2).isLt⟩) := by
  refine congrArg x (funext fun a => Fin.ext ?_)
  show GatherDims.start _ y idx a + GatherDims.batchCoord _ y a + GatherDims.offCoord _ y a = _
  rw [GatherDims.batchCoord_eq_zero _ _ _ (fun h => by simp [gather_S147456x3_S145924x9x1_S145924x9x3_2_0_n_n_0_2_13] at h)]
  rcases two a with rfl | rfl
  · rw [GatherDims.offCoord_eq_zero _ _ _ (by decide)]
    unfold GatherDims.start
    rw [dif_pos (by decide), h _ rfl rfl]
    show min ((n : ℤ).toNat) (147456 - 1) + 0 + 0 = n
    omega
  · unfold GatherDims.start GatherDims.offCoord
    rw [dif_neg (by decide), dif_pos (by decide)]
    exact Nat.zero_add _

/-- The gather of matrix columns reads the flattened picture at the index it is given. -/
theorem gather_col {α : Type} (x : S147456x3.Idx → α) (idx : IVec S11819844x1 32) (y : S11819844x3.Idx) (n : ℕ)
    (hn : n < 147456) (h : ∀ z : S11819844x1.Idx, (z 0).val = (y 0).val → (idx z).toInt = n) :
    Host.gather gather_S147456x3_S11819844x1_S11819844x3_1_0_n_n_0_1_13 x idx y = x (ix2 ⟨n, hn⟩ ⟨(y 1).val, (y 1).isLt⟩) := by
  refine congrArg x (funext fun a => Fin.ext ?_)
  show GatherDims.start _ y idx a + GatherDims.batchCoord _ y a + GatherDims.offCoord _ y a = _
  rw [GatherDims.batchCoord_eq_zero _ _ _ (fun h => by simp [gather_S147456x3_S11819844x1_S11819844x3_1_0_n_n_0_1_13] at h)]
  rcases two a with rfl | rfl
  · rw [GatherDims.offCoord_eq_zero _ _ _ (by decide)]
    unfold GatherDims.start
    rw [dif_pos (by decide), h _ rfl]
    show min ((n : ℤ).toNat) (147456 - 1) + 0 + 0 = n
    omega
  · unfold GatherDims.start GatherDims.offCoord
    rw [dif_neg (by decide), dif_pos (by decide)]
    exact Nat.zero_add _

/-- The scatter of matrix rows writes an update where its index says. -/
theorem scatter_row (idx : IVec S11819844x1 32) (y : S11819844x3.Idx) (n : ℕ) (hn : n < 147456)
    (h : ∀ z : S11819844x1.Idx, (z 0).val = (y 0).val → (idx z).toInt = n) :
    scatter_S147456x3_S11819844x1_S11819844x3_1_0_0_1.resultIdx? y idx = some (ix2 ⟨n, hn⟩ ⟨(y 1).val, (y 1).isLt⟩) := by
  have s0 : scatter_S147456x3_S11819844x1_S11819844x3_1_0_0_1.start y idx 0 = n := by
    unfold ScatterDims.start
    rw [dif_pos (by decide)]
    exact h _ rfl
  have s1 : scatter_S147456x3_S11819844x1_S11819844x3_1_0_0_1.start y idx 1 = 0 := by
    unfold ScatterDims.start
    rw [dif_neg (by decide)]
  have w0 : scatter_S147456x3_S11819844x1_S11819844x3_1_0_0_1.window y 0 = 0 := by
    unfold ScatterDims.window
    rw [dif_neg (by decide)]
  have w1 : scatter_S147456x3_S11819844x1_S11819844x3_1_0_0_1.window y 1 = (y 1).val := by
    unfold ScatterDims.window
    rw [dif_pos (by decide)]
    rfl
  have y1 : (y 1).val < 3 := (y 1).isLt
  unfold ScatterDims.resultIdx?
  rw [dif_pos (fun a => by
    match a with
    | ⟨0, _⟩ =>
      show 0 ≤ ScatterDims.start _ y idx 0 + ScatterDims.window _ y 0 ∧ ScatterDims.start _ y idx 0 + ScatterDims.window _ y 0 < 147456
      rw [s0, w0]; omega
    | ⟨1, _⟩ =>
      show 0 ≤ ScatterDims.start _ y idx 1 + ScatterDims.window _ y 1 ∧ ScatterDims.start _ y idx 1 + ScatterDims.window _ y 1 < 3
      rw [s1, w1]; omega)]
  refine congrArg some (funext fun a => Fin.ext ?_)
  match a with
  | ⟨0, _⟩ =>
    show (ScatterDims.start scatter_S147456x3_S11819844x1_S11819844x3_1_0_0_1 y idx 0 + ScatterDims.window _ y 0 : ℤ).toNat = n
    rw [s0, w0]; omega
  | ⟨1, _⟩ =>
    show (ScatterDims.start scatter_S147456x3_S11819844x1_S11819844x3_1_0_0_1 y idx 1 + ScatterDims.window _ y 1 : ℤ).toNat = (y 1).val
    rw [s1, w1]; omega

variable (T : Pic)

/-- A flattened picture at an index. -/
theorem flat_at (i : S147456x3.Idx) :
    val_main_v11 (F := Ideal) (lift T) i = ((pixel T (i 1).val ((i 0).val / 384) ((i 0).val % 384) : ℝ) : EReal) := by
  have h0 : (i 0).val < 147456 := (i 0).isLt
  have h1 : (i 1).val < 3 := (i 1).isLt
  rw [val_main_v11_apply, val_main_v10_apply]
  refine congrArg (fun x : ℝ => (x : EReal)) (eq_pixel T _ _ _ _ ?_ ?_ ?_)
  · show ((i 1).val * 147456 + (i 0).val) / 147456 = _
    omega
  · show ((i 1).val * 147456 + (i 0).val) / 384 % 384 = _
    omega
  · show ((i 1).val * 147456 + (i 0).val) % 384 = _
    omega

/-- The nine pixels of window `w`, the windows counted in row-major order. -/
def win (w : ℕ) : Fin 9 → Fin 3 → ℝ := window T (w / 382) (w % 382)

/-- The flattened picture at a position is the window's pixel. -/
theorem pixel_pos (w : ℕ) (k : Fin 9) (c : Fin 3) :
    pixel T c.val (pos w k.val / 384) (pos w k.val % 384) = win T w k c := by
  have hk := k.isLt
  unfold win window
  have e1 : pos w k.val / 384 = w / 382 + k.val / 3 := by unfold pos; omega
  have e2 : pos w k.val % 384 = w % 382 + k.val % 3 := by unfold pos; omega
  rw [e1, e2]

/-- The gathered windows. -/
theorem win_at (i : S145924x9x3.Idx) : val_main_v18 (F := Ideal) (lift T) i = ((win T (i 0).val (i 1) (i 2) : ℝ) : EReal) := by
  have hp := pos_lt (w := (i 0).val) (k := (i 1).val) (i 0).isLt (i 1).isLt
  refine (gather_win _ _ i (pos (i 0).val (i 1).val) hp fun z h0 h1 => ?_).trans ?_
  · rw [win_index, h0, h1]; exact pos_int _ hp
  rw [flat_at]
  exact congrArg (fun x : ℝ => (x : EReal)) (pixel_pos T (i 0).val (i 1) (i 2))

end Cert.Matting

end
-- ==== Proof.RefStages.lean ====
/- The reference's stages at each window on pictures of real numbers: means, regularised covariance, its inverse by elimination,
   and the matting weights. -/
module

public import proofs.«01_k».proof.Proof.RefIndex

@[expose] public section

noncomputable section

namespace Cert.Matting

open Idealize.ShloMosaic Idealize.ShloMosaic.ValueIdx Idealize.ShloMosaic.StableHlo.Predicate
open Cert.ReferenceIdeal Cert.ReferenceIdeal.Gen Cert.ReferenceIdeal.Read

/-- A quotient of real numbers, taken in the extended reals. -/
theorem div_real (x y : ℝ) (hy : y ≠ 0) : FloatOps.hostDivf (F := Ideal) (φ := .f32) (x : EReal) (y : EReal) = ((x / y : ℝ) : EReal) := by
  show Ideal.div _ _ = _
  rw [Ideal.div_coe hy, ← EReal.coe_mul, mul_one_div]

/-- A choice on the equality of two small numbers, their bounds forgotten. -/
theorem if_fin {n : ℕ} (a b : Fin n) (x y : ℝ) : (if a.val = b.val then x else y) = if a = b then x else y := by
  simp only [Fin.ext_iff]

/-- The literal nine. -/
theorem nine : FloatOps.ofBits (F := Ideal) .f32 0x41100000#32 = ((9 : ℝ) : EReal) := by
  show Ideal.ofBits .f32 0x41100000#32 = _
  simp [Ideal.ofBits, Ideal.ieee, -EReal.coe_mul]; norm_num

/-- The literal one. -/
theorem one : FloatOps.ofBits (F := Ideal) .f32 0x3F800000#32 = ((1 : ℝ) : EReal) := by
  show Ideal.ofBits .f32 0x3F800000#32 = _
  simp [Ideal.ofBits, Ideal.ieee, -EReal.coe_mul]; norm_num

/-- The literal ninety million. -/
theorem ninety_million : FloatOps.ofBits (F := Ideal) .f32 0x4CABA950#32 = ((90000000 : ℝ) : EReal) := by
  show Ideal.ofBits .f32 0x4CABA950#32 = _
  simp [Ideal.ofBits, Ideal.ieee, -EReal.coe_mul]; norm_num

/-- Two small numbers are equal as words exactly when they are equal. -/
theorem word_eq (a b : ℕ) (ha : a < 9) (hb : b < 9) :
    IntOp.cmpi .eq (BitVec.ofNat 32 a) (BitVec.ofNat 32 b) = if a = b then 1#1 else 0#1 := by
  interval_cases a <;> interval_cases b <;> rfl

/-- An entry of the identity matrix. -/
theorem eye_entry (a b : ℕ) (ha : a < 9) (hb : b < 9) :
    FloatOps.uitofp (F := Ideal) .f32 (IntOp.cmpi .eq (IntOp.addi (BitVec.ofNat 32 a) 0#32) (BitVec.ofNat 32 b))
      = (((if a = b then 1 else 0 : ℝ)) : EReal) := by
  have h0 : IntOp.addi (BitVec.ofNat 32 a) 0#32 = BitVec.ofNat 32 a := BitVec.add_zero _
  rw [h0, word_eq a b ha hb]
  show (((if a = b then 1#1 else 0#1 : BitVec 1).toNat : ℝ) : EReal) = _
  by_cases h : a = b <;> simp [h]

/-- One entry of an elimination step, computed in the extended reals. -/
theorem step_entry (r k : ℕ) (hr : r < 9) (hk : k < 9) (a p x c : ℝ) (hp : p ≠ 0) :
    Scalar.select (IntOp.cmpi .eq (BitVec.ofNat 32 r) (BitVec.ofNat 32 k))
      (FloatOps.hostDivf (F := Ideal) (φ := .f32) (a : EReal) (p : EReal))
      (FloatOps.subf (F := Ideal) (φ := .f32) (x : EReal)
        (FloatOps.mulf (F := Ideal) (φ := .f32) (c : EReal) (FloatOps.hostDivf (F := Ideal) (φ := .f32) (a : EReal) (p : EReal))))
      = (((if r = k then a / p else x - c * (a / p) : ℝ)) : EReal) := by
  rw [div_real _ _ hp, word_eq r k hr hk]
  by_cases h : r = k
  · rw [if_pos h, if_pos h]; rfl
  · rw [if_neg h, if_neg h]
    exact (if_neg (by decide)).trans (by rw [EReal.coe_sub, EReal.coe_mul]; rfl)

/-- The second pivot is a quotient of leading minors. -/
theorem pivot1 (m : Fin 3 → Fin 3 → ℝ) (hs : ∀ a b, m a b = m b a) (h0 : m 0 0 ≠ 0) :
    elim 0 (augment m) 1 1 = minor2 m / m 0 0 := by
  simp [elim, augment, Fin.castLE, hs 1 0]
  unfold minor2; field_simp

/-- The third pivot is a quotient of leading minors. -/
theorem pivot2 (m : Fin 3 → Fin 3 → ℝ) (hs : ∀ a b, m a b = m b a) (h0 : m 0 0 ≠ 0) (h1 : minor2 m ≠ 0) :
    elim 1 (elim 0 (augment m)) 2 2 = det3 m / minor2 m := by
  have p1 : m 1 1 - m 0 1 * (m 0 1 / m 0 0) = minor2 m / m 0 0 := by
    unfold minor2; field_simp
  simp [elim, augment, Fin.castLE, hs 1 0, hs 2 0, hs 2 1, p1]
  unfold det3 cof
  field_simp
  simp [minor2]
  ring

variable (T : Pic)

/-- The means of the windows. -/
theorem avg_at (i : S145924x1x3.Idx) :
    val_main_v22 (F := Ideal) (lift T) i = ((avg (win T (i 0).val) (i 2) : ℝ) : EReal) := by
  rw [val_main_v22_apply, val_main_v20_apply, val_main_v19_apply, val_main_v21_apply, val_main_cst_apply, val_main_cst_2_apply, nine]
  simp only [win_at]
  rw [← coe_sum]
  show FloatOps.hostDivf (F := Ideal) (φ := .f32) (Ideal.ofBits .f32 0#32 + _) _ = _
  rw [Ideal.ofBits_zero_f32, zero_add]
  exact div_real _ _ (by norm_num)

/-- The regularised covariances of the windows. -/
theorem cov_at (i : S145924x3x3.Idx) :
    val_main_v38 (F := Ideal) (lift T) i = ((cov (win T (i 0).val) (i 1) (i 2) : ℝ) : EReal) := by
  have h1 : (i 1).val < 9 := lt_trans (i 1).isLt (by decide)
  have h2 : (i 2).val < 9 := lt_trans (i 2).isLt (by decide)
  rw [val_main_v38_apply, val_main_v27_apply, val_main_v25_apply, val_main_v23_apply, val_main_v24_apply, val_main_cst_3_apply,
    val_main_v26_apply, val_main_v37_apply, val_main_v36_apply, val_main_v35_apply, val_main_v34_apply, val_main_cst_5_apply,
    val_main_v33_apply, val_main_v32_apply, val_main_v31_apply, val_main_v28_apply, val_main_v29_apply, val_main_v30_apply,
    val_main_c_4_apply, nine, ninety_million]
  simp only [win_at, avg_at, Fin.sum_univ_one, ← EReal.coe_mul]
  rw [← coe_sum]
  refine (congrArg₂ (FloatOps.addf (F := Ideal) (φ := .f32))
    (congrArg (FloatOps.subf (F := Ideal) (φ := .f32) · _) (div_real _ _ (by norm_num)))
    ((congrArg (FloatOps.hostDivf (F := Ideal) (φ := .f32) · _) (eye_entry (i 1).val (i 2).val h1 h2)).trans
      (div_real _ _ (by norm_num)))).trans ?_
  show (_ - _ : EReal) + _ = _
  rw [← EReal.coe_sub, ← EReal.coe_add]
  refine congrArg (fun x : ℝ => (x : EReal)) ?_
  exact congrArg₂ (· + ·) rfl (congrArg (· / 90000000) (if_fin (n := 3) (i 1) (i 2) 1 0))

/-- The covariances with the identity written to their right. -/
theorem tab0_at (i : S145924x3x6.Idx) :
    val_main_v46 (F := Ideal) (lift T) i = ((augment (cov (win T (i 0).val)) (i 1) (i 2) : ℝ) : EReal) := by
  have h1 : (i 1).val < 3 := (i 1).isLt
  have h2 : (i 2).val < 6 := (i 2).isLt
  unfold val_main_v46 augment
  by_cases h : (i 2).val < 3
  · rw [dif_pos h]
    refine (concatenate_pair_apply_left (s₁ := S145924x3x3) 2 _ _ _ i rfl (ix3 (i 0) (i 1) ⟨(i 2).val, h⟩) fun b => ?_).trans (cov_at T _)
    match b with
    | ⟨0, _⟩ => rfl
    | ⟨1, _⟩ => rfl
    | ⟨2, _⟩ => rfl
  · rw [dif_neg h]
    refine (concatenate_pair_apply_right (s₁ := S145924x3x3) (s₂ := S145924x3x3) 2 _ _ _ i rfl rfl (ix3 (i 0) (i 1) ⟨(i 2).val - 3, by omega⟩) (fun b hb => ?_) ?_).trans ?_
    · match b with
      | ⟨0, _⟩ => rfl
      | ⟨1, _⟩ => rfl
      | ⟨2, _⟩ => exact absurd rfl hb
    · show (i 2).val - 3 + 3 = (i 2).val
      omega
    rw [val_main_v45_apply, val_main_v44_apply, val_main_v43_apply, val_main_v42_apply, val_main_v39_apply, val_main_v40_apply,
      val_main_v41_apply, val_main_c_6_apply]
    exact eye_entry (i 1).val ((i 2).val - 3) (by omega) (by omega)

/-- The tables after the first step. -/
theorem tab1_at (i : S145924x3x6.Idx) :
    val_main_v59 (F := Ideal) (lift T) i = ((elim 0 (augment (cov (win T (i 0).val))) (i 1) (i 2) : ℝ) : EReal) := by
  have h1 : (i 1).val < 9 := lt_trans (i 1).isLt (by decide)
  rw [val_main_v59_apply, val_main_call0_v0_apply, val_main_v58_apply, val_main_v57_apply, val_main_v56_apply, val_main_v55_apply, val_main_v54_apply, val_main_v53_apply, val_main_v52_apply, val_main_c_7_apply, val_main_v47_apply]
  rw [val_main_v51_apply, val_main_v50_apply, val_main_v49_apply, val_main_v48_apply]
  simp only [tab0_at]
  refine (step_entry (i 1).val 0 h1 (by decide) _ _ _ _ ?_).trans (congrArg (fun x : ℝ => (x : EReal)) ?_)
  · exact (cov_pos (win T (i 0).val)).ne'
  · exact if_fin (n := 3) (i 1) 0 _ _

/-- The tables after the second step. -/
theorem tab2_at (i : S145924x3x6.Idx) :
    val_main_v71 (F := Ideal) (lift T) i = ((elim 1 (elim 0 (augment (cov (win T (i 0).val)))) (i 1) (i 2) : ℝ) : EReal) := by
  have h1 : (i 1).val < 9 := lt_trans (i 1).isLt (by decide)
  rw [val_main_v71_apply, val_main_call1_v0_apply, val_main_v70_apply, val_main_v69_apply, val_main_v68_apply, val_main_v67_apply, val_main_v66_apply, val_main_v65_apply, val_main_v64_apply, val_main_c_8_apply, val_main_v47_apply]
  rw [val_main_v63_apply, val_main_v62_apply, val_main_v61_apply, val_main_v60_apply]
  simp only [tab1_at]
  refine (step_entry (i 1).val 1 h1 (by decide) _ _ _ _ ?_).trans (congrArg (fun x : ℝ => (x : EReal)) ?_)
  · exact (pivot1 (cov (win T (i 0).val)) (cov_symm _) (cov_pos _).ne').trans_ne (div_pos (minor2_pos _) (cov_pos _)).ne'
  · exact if_fin (n := 3) (i 1) 1 _ _

/-- The tables after the third step. -/
theorem tab3_at (i : S145924x3x6.Idx) :
    val_main_v83 (F := Ideal) (lift T) i = ((elim 2 (elim 1 (elim 0 (augment (cov (win T (i 0).val))))) (i 1) (i 2) : ℝ) : EReal) := by
  have h1 : (i 1).val < 9 := lt_trans (i 1).isLt (by decide)
  rw [val_main_v83_apply, val_main_call2_v0_apply, val_main_v82_apply, val_main_v81_apply, val_main_v80_apply, val_main_v79_apply, val_main_v78_apply, val_main_v77_apply, val_main_v76_apply, val_main_c_9_apply, val_main_v47_apply]
  rw [val_main_v75_apply, val_main_v74_apply, val_main_v73_apply, val_main_v72_apply]
  simp only [tab2_at]
  refine (step_entry (i 1).val 2 h1 (by decide) _ _ _ _ ?_).trans (congrArg (fun x : ℝ => (x : EReal)) ?_)
  · exact (pivot2 (cov (win T (i 0).val)) (cov_symm _) (cov_pos _).ne' (minor2_pos _).ne').trans_ne (div_pos (det3_pos _) (minor2_pos _)).ne'
  · exact if_fin (n := 3) (i 1) 2 _ _

/-- The inverse covariances. -/
theorem inv_at (i : S145924x3x3.Idx) :
    val_main_v84 (F := Ideal) (lift T) i = ((gaussInv (cov (win T (i 0).val)) (i 1) (i 2) : ℝ) : EReal) := by
  rw [val_main_v84_apply, tab3_at]
  rfl

/-- The deviations from the mean, times the inverse covariance. -/
theorem scaled_at (i : S145924x9x3.Idx) :
    val_main_v87 (F := Ideal) (lift T) i = ((scaled (win T (i 0).val) (i 1) (i 2) : ℝ) : EReal) := by
  rw [val_main_v87_apply]
  simp only [val_main_v86_apply, val_main_v85_apply, win_at, avg_at, inv_at, Ideal.subf_def, ← EReal.coe_sub, ← EReal.coe_mul]
  rw [← coe_sum]
  rfl

/-- The matting weights. -/
theorem weight_at (i : S145924x9x9.Idx) :
    val_main_v103 (F := Ideal) (lift T) i = ((weight (win T (i 0).val) (i 1) (i 2) : ℝ) : EReal) := by
  have h1 : (i 1).val < 9 := (i 1).isLt
  have h2 : (i 2).val < 9 := (i 2).isLt
  rw [val_main_v103_apply, val_main_v102_apply, val_main_v101_apply, val_main_v93_apply, val_main_v92_apply, val_main_v91_apply,
    val_main_v88_apply, val_main_v89_apply, val_main_v90_apply, val_main_c_10_apply, val_main_v100_apply, val_main_v98_apply,
    val_main_v97_apply, val_main_v99_apply, val_main_cst_11_apply, val_main_cst_12_apply, val_main_v96_apply, nine, one]
  simp only [val_main_v95_apply, val_main_v94_apply, win_at, avg_at, scaled_at, Ideal.subf_def, ← EReal.coe_sub, ← EReal.coe_mul]
  rw [← coe_sum, Ideal.addf_def, ← EReal.coe_add, div_real _ _ (by norm_num)]
  refine (congrArg (· - _) (eye_entry (i 1).val (i 2).val h1 h2)).trans ?_
  rw [← EReal.coe_sub]
  refine congrArg (fun x : ℝ => (x : EReal)) ?_
  exact congrArg₂ (· - ·) (if_fin (n := 9) (i 1) (i 2) 1 0) rfl

end Cert.Matting

end
-- ==== Proof.RefTotal.lean ====
/- The reference's sparse product and total on pictures of real numbers: the sum over the windows of each window's share. -/
module

public import proofs.«01_k».proof.Proof.RefStages

@[expose] public section

noncomputable section

namespace Cert.Matting

open Idealize.ShloMosaic Idealize.ShloMosaic.ValueIdx Idealize.ShloMosaic.StableHlo.Predicate
open Cert.ReferenceIdeal Cert.ReferenceIdeal.Gen Cert.ReferenceIdeal.Read

/-- Values added up at the places they are sent to, then summed against a table, are each multiplied by the table's entry at
    the value's place. -/
theorem sum_scattered {ι κ : Type} [Fintype ι] [Fintype κ] (a : κ → ℝ) (b : ι → ℝ) (ρ : ι → κ) (g : ι → Option κ)
    (hg : ∀ i, g i = some (ρ i)) [∀ j, DecidablePred fun i => g i = some j] :
    ∑ j, (a j : EReal) * (0 + ∑ i with g i = some j, ((b i : ℝ) : EReal)) = ((∑ i, a (ρ i) * b i : ℝ) : EReal) := by
  classical
  have hf : ∀ j, ∑ i with g i = some j, ((b i : ℝ) : EReal) = ((∑ i, if ρ i = j then b i else 0 : ℝ) : EReal) := fun j => by
    rw [Finset.sum_filter, coe_sum]
    refine Finset.sum_congr rfl fun i _ => ?_
    by_cases h : ρ i = j <;> simp [hg, h]
  simp only [hf, zero_add, ← EReal.coe_mul]
  rw [← coe_sum]
  refine congrArg (fun x : ℝ => (x : EReal)) ?_
  simp only [Finset.mul_sum]
  rw [Finset.sum_comm]
  refine Finset.sum_congr rfl fun i _ => ?_
  simp

/-- A sum over `m * n` numbers, taken in `m` runs of `n`. -/
theorem sum_runs (N m n : ℕ) (h : N = m * n) (f : ℕ → ℝ) :
    ∑ i : Fin N, f i.val = ∑ a : Fin m, ∑ b : Fin n, f (a.val * n + b.val) := by
  subst h
  rw [← Equiv.sum_comp finProdFinEquiv, Fintype.sum_prod_type]
  refine Finset.sum_congr rfl fun a _ => Finset.sum_congr rfl fun b _ => congrArg f ?_
  show b.val + n * a.val = a.val * n + b.val
  ring

variable (T U : Pic)

/-- The flattened second picture at an index. -/
theorem flat_second (i : S147456x3.Idx) :
    val_main_v113 (F := Ideal) (lift U) i = ((pixel U (i 1).val ((i 0).val / 384) ((i 0).val % 384) : ℝ) : EReal) := by
  have h0 : (i 0).val < 147456 := (i 0).isLt
  have h1 : (i 1).val < 3 := (i 1).isLt
  rw [val_main_v113_apply, val_main_v112_apply]
  refine congrArg (fun x : ℝ => (x : EReal)) (eq_pixel U _ _ _ _ ?_ ?_ ?_)
  · show ((i 1).val * 147456 + (i 0).val) / 147456 = _
    omega
  · show ((i 1).val * 147456 + (i 0).val) / 384 % 384 = _
    omega
  · show ((i 1).val * 147456 + (i 0).val) % 384 = _
    omega

/-- The pixel that entry `n` of the sparse matrix has for its row. -/
def rowPixel (n : ℕ) : Fin 9 := ⟨n / 9 % 9, by omega⟩

/-- The pixel that entry `n` of the sparse matrix has for its column. -/
def colPixel (n : ℕ) : Fin 9 := ⟨n % 9, by omega⟩

/-- Entry `n` of the sparse matrix times channel `c` of its column's pixel. -/
def entry (n : ℕ) (c : Fin 3) : ℝ := weight (win T (n / 81)) (rowPixel n) (colPixel n) * win U (n / 81) (colPixel n) c

/-- The products of the sparse matrix's entries with the columns' pixels. -/
theorem entry_at (i : S11819844x3.Idx) :
    val_main_v124 (F := Ideal) (lift T) (lift U) i = ((entry T U (i 0).val (i 1) : ℝ) : EReal) := by
  have h0 : (i 0).val < 11819844 := (i 0).isLt
  have hp : pos ((i 0).val / 81) ((i 0).val % 9) < 147456 := pos_lt (by omega) (by omega)
  have hw : val_main_v123 (F := Ideal) (lift T) i
      = ((weight (win T ((i 0).val / 81)) (rowPixel (i 0).val) (colPixel (i 0).val) : ℝ) : EReal) := by
    rw [val_main_v123_apply, val_main_v115_apply, val_main_v111_apply, weight_at]
    rfl
  have hu : val_main_v122 (F := Ideal) (lift U) i = ((win U ((i 0).val / 81) (colPixel (i 0).val) (i 1) : ℝ) : EReal) := by
    refine (gather_col _ _ i _ hp fun z hz => ?_).trans ?_
    · rw [col_index, hz]; exact pos_int _ hp
    rw [flat_second]
    exact congrArg (fun x : ℝ => (x : EReal)) (pixel_pos U ((i 0).val / 81) (colPixel (i 0).val) (i 1))
  rw [val_main_v124_apply, hw, hu]
  exact (EReal.coe_mul _ _).symm

/-- A row's position lies in the picture. -/
theorem row_lt (i : S11819844x3.Idx) : pos ((i 0).val / 81) ((i 0).val / 9 % 9) < 147456 := by
  have h0 : (i 0).val < 11819844 := (i 0).isLt
  exact pos_lt (by omega) (by omega)

/-- The place in the flattened picture that an entry's product is added to. -/
def rowPlace (i : S11819844x3.Idx) : S147456x3.Idx :=
  ix2 ⟨pos ((i 0).val / 81) ((i 0).val / 9 % 9), row_lt i⟩ ⟨(i 1).val, (i 1).isLt⟩

/-- The scatter adds each product at its place. -/
theorem scatter_place (i : S11819844x3.Idx) :
    scatter_S147456x3_S11819844x1_S11819844x3_1_0_0_1.resultIdx? i (val_main_v130 (F := Ideal)) = some (rowPlace i) :=
  scatter_row _ i _ (row_lt i) fun z hz => by rw [row_index, hz]; exact pos_int _ (row_lt i)

/-- A scatter that adds, read at an element: what was there and the updates that land there. -/
theorem scatter_read {s si su : Shape} (d : ScatterDims s si su) (v : FVec Ideal s .f32) (idx : IVec si 32)
    (upd : FVec Ideal su .f32) (j : s.Idx) :
    Host.scatterAdd d v idx upd j = v j + ∑ k with d.resultIdx? k idx = some j, upd k := rfl

/-- A table times what was scattered onto zeros, summed over all elements, at any shapes. -/
theorem scatter_sum {s si su : Shape} (d : ScatterDims s si su) (v : FVec Ideal s .f32) (idx : IVec si 32)
    (upd : FVec Ideal su .f32) (x : FVec Ideal s .f32) (ρ : su.Idx → s.Idx) (a : s.Idx → ℝ) (b : su.Idx → ℝ)
    (hv : ∀ j, v j = 0) (hu : ∀ k, upd k = ((b k : ℝ) : EReal)) (hx : ∀ j, x j = ((a j : ℝ) : EReal))
    (hg : ∀ k, d.resultIdx? k idx = some (ρ k)) :
    ∑ j, x j * Host.scatterAdd d v idx upd j = ((∑ k, a (ρ k) * b k : ℝ) : EReal) := by
  simp only [scatter_read, hv, hu, hx]
  exact sum_scattered a b ρ _ hg

/-- The array that the scatter starts from is zero. -/
theorem zeros_at (j : S147456x3.Idx) : val_main_v114 (F := Ideal) j = 0 := by
  rw [val_main_v114_apply, val_main_cst_13_apply]
  exact Ideal.ofBits_zero_f32

/-- The total, as a sum of products with the scattered array. -/
theorem total_products (i : S_.Idx) : val_main_v133 (F := Ideal) (lift T) (lift U) i
    = ∑ j, val_main_v113 (F := Ideal) (lift U) j * val_main_v131 (F := Ideal) (lift T) (lift U) j := by
  rw [val_main_v133_apply, val_main_cst_18_apply]
  refine (congrArg (· + _) Ideal.ofBits_zero_f32).trans ((zero_add _).trans ?_)
  exact Finset.sum_congr rfl fun j _ => val_main_v132_apply (F := Ideal) (lift T) (lift U) j

/-- The total, summed over the sparse matrix's entries. -/
theorem total_entries (i : S_.Idx) : val_main_v133 (F := Ideal) (lift T) (lift U) i
    = ((∑ k : S11819844x3.Idx, win U ((k 0).val / 81) (rowPixel (k 0).val) (k 1) * entry T U (k 0).val (k 1) : ℝ) : EReal) := by
  refine (total_products T U i).trans ?_
  unfold val_main_v131
  refine (scatter_sum _ _ _ _ _ rowPlace
    (fun j : S147456x3.Idx => pixel U (j 1).val ((j 0).val / 384) ((j 0).val % 384))
    (fun k : S11819844x3.Idx => entry T U (k 0).val (k 1)) zeros_at (entry_at T U) (flat_second U) scatter_place).trans ?_
  refine congrArg (fun x : ℝ => (x : EReal)) (Finset.sum_congr rfl fun k _ => congrArg (· * _) ?_)
  exact pixel_pos U ((k 0).val / 81) (rowPixel (k 0).val) (k 1)

/-- The sum over the sparse matrix's entries is the sum of the windows' shares. -/
theorem entries_shares : ∑ k : S11819844x3.Idx, win U ((k 0).val / 81) (rowPixel (k 0).val) (k 1) * entry T U (k 0).val (k 1)
    = ∑ p : Fin 382, ∑ q : Fin 382, share (window T p.val q.val) (window U p.val q.val) := by
  refine (sum_idx2 _).trans ?_
  refine (sum_runs 11819844 145924 81 (by norm_num) fun n =>
    ∑ c : Fin 3, win U (n / 81) (rowPixel n) c * entry T U n c).trans ?_
  have hw : ∀ w, ∑ b : Fin 81, ∑ c : Fin 3, win U ((w * 81 + b.val) / 81) (rowPixel (w * 81 + b.val)) c * entry T U (w * 81 + b.val) c
      = share (win T w) (win U w) := fun w => by
    refine (sum_runs 81 9 9 (by norm_num) fun b =>
      ∑ c : Fin 3, win U ((w * 81 + b) / 81) (rowPixel (w * 81 + b)) c * entry T U (w * 81 + b) c).trans ?_
    refine Finset.sum_congr rfl fun i _ => Finset.sum_congr rfl fun k _ => Finset.sum_congr rfl fun c _ => ?_
    have hi := i.isLt
    have hk := k.isLt
    have e : (w * 81 + (i.val * 9 + k.val)) / 81 = w := by omega
    have er : rowPixel (w * 81 + (i.val * 9 + k.val)) = i := Fin.ext (by
      show (w * 81 + (i.val * 9 + k.val)) / 9 % 9 = i.val
      omega)
    have ec : colPixel (w * 81 + (i.val * 9 + k.val)) = k := Fin.ext (by
      show (w * 81 + (i.val * 9 + k.val)) % 9 = k.val
      omega)
    unfold entry
    rw [e, er, ec]
  simp only [hw]
  refine (sum_runs 145924 382 382 (by norm_num) fun w => share (win T w) (win U w)).trans ?_
  refine Finset.sum_congr rfl fun p _ => Finset.sum_congr rfl fun q _ => ?_
  have hq := q.isLt
  have e1 : (p.val * 382 + q.val) / 382 = p.val := by omega
  have e2 : (p.val * 382 + q.val) % 382 = q.val := by omega
  unfold win
  rw [e1, e2]

/-- The reference's result is the sum over the windows of each window's share. -/
theorem reference_value (j : S1x1.Idx) : val_main_v134 (F := Ideal) (lift T) (lift U) j
    = ((∑ p : Fin 382, ∑ q : Fin 382, share (window T p.val q.val) (window U p.val q.val) : ℝ) : EReal) :=
  (total_entries T U _).trans (congrArg (fun x : ℝ => (x : EReal)) (entries_shares T U))

end Cert.Matting

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.RefTotal
public import Idealize.ShloMosaic.Adequacy
public import Idealize.ShloMosaic.Init

@[expose] public section

noncomputable section

namespace Cert.Proof

open Idealize.ShloMosaic Idealize.SL.Sem Cert.Matting

/-- On pictures of real numbers the kernel's value is the reference's. -/
theorem values_eq (T U : Pic) : Cert.KernelIdeal.Value.G2 (F := Ideal) (lift T) (lift U)
    = Cert.ReferenceIdeal.Read.val_main_v134 (F := Ideal) (lift T) (lift U) :=
  funext fun j => (kernel_value T U j).trans (by
    rw [reference_value]
    simp only [share_eq_closed])

/-- On pictures whose numbers are all finite the kernel's value is the reference's. -/
theorem values_eq_of_finite [Cert.Pre_finite.Facts] (x y : FVec Ideal Frame .f32)
    (h : Cert.Pre_finite.fn (F := Ideal) x y = fun _ => 1#1) :
    Cert.KernelIdeal.Value.G2 (F := Ideal) x y = Cert.ReferenceIdeal.Read.val_main_v134 (F := Ideal) x y := by
  obtain ⟨⟨T, rfl⟩, U, rfl⟩ := real_of_pre x y h
  exact values_eq T U

/-- The kernel's program runs, leaves its arguments as they were and its counters at zero. -/
theorem frame_p : Cert.quiescent_Kernel (hKernel := Cert.Kernel.Gen.facts) := fun m ρ _ => Cert.Kernel.Gen.frame m ρ

/-- The same of the idealized kernel. -/
theorem frame_pi : Cert.quiescent_KernelIdeal (hKernelIdeal := Cert.KernelIdeal.Gen.facts) :=
  fun m ρ _ => Cert.KernelIdeal.Gen.frame m ρ

/-- The same of the idealized kernel on finite pictures. -/
theorem frame_pi_finite :
    Cert.quiescent_KernelIdeal_pre_finite (hKernelIdeal := Cert.KernelIdeal.Gen.facts) (hPre_finite := pre_facts) :=
  fun m ρ _ => Cert.KernelIdeal.Gen.frame m ρ

/-- The reference runs and leaves its arguments as they were; it has no counters. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference on finite pictures. -/
theorem frame_ri_finite :
    Cert.quiescent_ReferenceIdeal_pre_finite (hReferenceIdeal := Cert.ReferenceIdeal.Gen.facts) (hPre_finite := pre_facts) :=
  fun m ρ _ => frame_ri m ρ trivial

/-- The idealized kernel differs from the kernel in the names of its two constants only. -/
theorem preserves : Cert.preserves_Kernel_KernelIdeal :=
  ⟨IdealRules.named_const.statement Cert.KernelIdeal.κ "ninv" .f32 0x3DE38E39#32 _ rfl,
    IdealRules.named_const.statement Cert.KernelIdeal.κ "epsn" .f32 0x323EE32F#32 _ rfl⟩

/-- On finite pictures the idealized kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m ρ m' ρ' hpre hagree
  refine ⟨fun c => Cert.KernelIdeal.Value.G2 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v134_eq _).trans ?_
  refine Eq.trans ?_ (@values_eq_of_finite pre_facts _ _ (hpre c)).symm
  exact congrArg₂ (Cert.ReferenceIdeal.Read.val_main_v134 (F := Ideal)) (hagree c).1 (hagree c).2

/-- Every claim of the certificate. -/
theorem claim : Cert.Claim :=
  ⟨Cert.Kernel.Gen.facts, Cert.KernelIdeal.Gen.facts, Cert.ReferenceIdeal.Gen.facts, pre_facts,
    frame_p, frame_pi, frame_pi_finite, frame_ri, frame_ri_finite, preserves, algebraic⟩

end Cert.Proof

end
